-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_TopKernel (m : (ℓ : Loc Cert.TopKernel.nD Cert.TopKernel.τ Cert.TopKernel.sig) → Buf (Elt Bits) ℓ) : Prop :=
  True

def Pre_TopKernelIdeal (m : (ℓ : Loc Cert.TopKernelIdeal.nD Cert.TopKernelIdeal.τ Cert.TopKernelIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_TopKernel [hTopKernel : Cert.TopKernel.Facts] : Prop :=
  ∀ (m : (ℓ : Loc Cert.TopKernel.nD Cert.TopKernel.τ Cert.TopKernel.sig) → Buf (Elt Bits) ℓ) (g : Dev Cert.TopKernel.nD → PrngReg), Pre_TopKernel m →
    θ_run (Cert.TopKernel.defs (F := Bits)) (onTc (τ := Cert.TopKernel.τ) (Cert.TopKernel.main (F := Bits))) ⟨m, fun _ => 0, g⟩ (fun r => (∀ c : Dev Cert.TopKernel.nD,
      r.2.mem ((c.tc : Thread Cert.TopKernel.nD Cert.TopKernel.τ).loc Cert.TopKernel.main_arg0) = m ((c.tc : Thread Cert.TopKernel.nD Cert.TopKernel.τ).loc Cert.TopKernel.main_arg0)
      ∧ r.2.mem ((c.tc : Thread Cert.TopKernel.nD Cert.TopKernel.τ).loc Cert.TopKernel.main_arg1) = m ((c.tc : Thread Cert.TopKernel.nD Cert.TopKernel.τ).loc Cert.TopKernel.main_arg1)
      ∧ r.2.mem ((c.tc : Thread Cert.TopKernel.nD Cert.TopKernel.τ).loc Cert.TopKernel.main_arg2) = m ((c.tc : Thread Cert.TopKernel.nD Cert.TopKernel.τ).loc Cert.TopKernel.main_arg2))
      ∧ r.2.sem = fun _ => 0)

def quiescent_TopKernelIdeal [hTopKernelIdeal : Cert.TopKernelIdeal.Facts] : Prop :=
  ∀ (m : (ℓ : Loc Cert.TopKernelIdeal.nD Cert.TopKernelIdeal.τ Cert.TopKernelIdeal.sig) → Buf (Elt Ideal) ℓ) (g : Dev Cert.TopKernelIdeal.nD → PrngReg), Pre_TopKernelIdeal m →
    θ_run (Cert.TopKernelIdeal.defs (F := Ideal)) (onTc (τ := Cert.TopKernelIdeal.τ) (Cert.TopKernelIdeal.main (F := Ideal))) ⟨m, fun _ => 0, g⟩ (fun r => (∀ c : Dev Cert.TopKernelIdeal.nD,
      r.2.mem ((c.tc : Thread Cert.TopKernelIdeal.nD Cert.TopKernelIdeal.τ).loc Cert.TopKernelIdeal.main_arg0) = m ((c.tc : Thread Cert.TopKernelIdeal.nD Cert.TopKernelIdeal.τ).loc Cert.TopKernelIdeal.main_arg0)
      ∧ r.2.mem ((c.tc : Thread Cert.TopKernelIdeal.nD Cert.TopKernelIdeal.τ).loc Cert.TopKernelIdeal.main_arg1) = m ((c.tc : Thread Cert.TopKernelIdeal.nD Cert.TopKernelIdeal.τ).loc Cert.TopKernelIdeal.main_arg1)
      ∧ r.2.mem ((c.tc : Thread Cert.TopKernelIdeal.nD Cert.TopKernelIdeal.τ).loc Cert.TopKernelIdeal.main_arg2) = m ((c.tc : Thread Cert.TopKernelIdeal.nD Cert.TopKernelIdeal.τ).loc Cert.TopKernelIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v2_0)) (v1 : (c : Dev Cert.InKernelIdeal.nD) → Buf (Elt Ideal) ((c.tc : Thread Cert.InKernelIdeal.nD Cert.InKernelIdeal.τ).loc Cert.InKernelIdeal.main_v2_1)) (v2 : (c : Dev Cert.InKernelIdeal.nD) → Buf (Elt Ideal) ((c.tc : Thread Cert.InKernelIdeal.nD Cert.InKernelIdeal.τ).loc Cert.InKernelIdeal.main_v2_2)) (v3 : (c : Dev Cert.InKernelIdeal.nD) → Buf (Elt Ideal) ((c.tc : Thread Cert.InKernelIdeal.nD Cert.InKernelIdeal.τ).loc Cert.InKernelIdeal.main_v2_3)) (v4 : (c : Dev Cert.InKernelIdeal.nD) → Buf (Elt Ideal) ((c.tc : Thread Cert.InKernelIdeal.nD Cert.InKernelIdeal.τ).loc Cert.InKernelIdeal.main_v2_4)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v2_0) = v0 c
          ∧ r.2.mem ((c.tc : Thread Cert.InKernelIdeal.nD Cert.InKernelIdeal.τ).loc Cert.InKernelIdeal.main_v2_1) = v1 c
          ∧ r.2.mem ((c.tc : Thread Cert.InKernelIdeal.nD Cert.InKernelIdeal.τ).loc Cert.InKernelIdeal.main_v2_2) = v2 c
          ∧ r.2.mem ((c.tc : Thread Cert.InKernelIdeal.nD Cert.InKernelIdeal.τ).loc Cert.InKernelIdeal.main_v2_3) = v3 c
          ∧ r.2.mem ((c.tc : Thread Cert.InKernelIdeal.nD Cert.InKernelIdeal.τ).loc Cert.InKernelIdeal.main_v2_4) = v4 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v14) = v0 c
          ∧ r.2.mem ((c.tc : Thread Cert.InReferenceIdeal.nD Cert.InReferenceIdeal.τ).loc Cert.InReferenceIdeal.main_v15) = v1 c
          ∧ r.2.mem ((c.tc : Thread Cert.InReferenceIdeal.nD Cert.InReferenceIdeal.τ).loc Cert.InReferenceIdeal.main_v16) = v2 c
          ∧ r.2.mem ((c.tc : Thread Cert.InReferenceIdeal.nD Cert.InReferenceIdeal.τ).loc Cert.InReferenceIdeal.main_v17) = v3 c
          ∧ r.2.mem ((c.tc : Thread Cert.InReferenceIdeal.nD Cert.InReferenceIdeal.τ).loc Cert.InReferenceIdeal.main_v18) = v4 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)) →
    ∃ (v0 : (c : Dev Cert.OutKernelIdeal.nD) → Buf (Elt Ideal) ((c.tc : Thread Cert.OutKernelIdeal.nD Cert.OutKernelIdeal.τ).loc Cert.OutKernelIdeal.main_v2_0)) (v1 : (c : Dev Cert.OutKernelIdeal.nD) → Buf (Elt Ideal) ((c.tc : Thread Cert.OutKernelIdeal.nD Cert.OutKernelIdeal.τ).loc Cert.OutKernelIdeal.main_v2_1)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v2_0) = v0 c
          ∧ r.2.mem ((c.tc : Thread Cert.OutKernelIdeal.nD Cert.OutKernelIdeal.τ).loc Cert.OutKernelIdeal.main_v2_1) = v1 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_v16) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_TopKernel_TopKernelIdeal : Prop :=
  True

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hOutKernel : Cert.OutKernel.Facts) (hOutKernelIdeal : Cert.OutKernelIdeal.Facts) (hOutReferenceIdeal : Cert.OutReferenceIdeal.Facts) (hTopKernel : Cert.TopKernel.Facts) (hTopKernelIdeal : Cert.TopKernelIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_TopKernel (hTopKernel := hTopKernel)
    ∧ quiescent_TopKernelIdeal (hTopKernelIdeal := hTopKernelIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_InKernel_InKernelIdeal
    ∧ algebraic_InKernelIdeal_InReferenceIdeal (hInKernelIdeal := hInKernelIdeal) (hInReferenceIdeal := hInReferenceIdeal)
    ∧ preserves_OutKernel_OutKernelIdeal
    ∧ algebraic_OutKernelIdeal_OutReferenceIdeal (hOutKernelIdeal := hOutKernelIdeal) (hOutReferenceIdeal := hOutReferenceIdeal)
    ∧ preserves_TopKernel_TopKernelIdeal
-- ==== Pre_scores_finite.lean ====
abbrev S16384x512 : Shape := ⟨2, ![16384, 512]⟩
abbrev S16384x128 : Shape := ⟨2, ![16384, 128]⟩
abbrev S8x128x256 : Shape := ⟨3, ![8, 128, 256]⟩
abbrev S64 : Shape := ⟨1, ![64]⟩
abbrev S8 : Shape := ⟨1, ![8]⟩
abbrev S512 : Shape := ⟨1, ![512]⟩
abbrev S_ : Shape := ⟨0, ![]⟩
abbrev S1 : Shape := ⟨1, ![1]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S8x128x256 : S_.BroadcastsInDim S8x128x256 (![] : Fin 0 → Fin S8x128x256.rank)
  reducesTo_S8x128x256_S_d0_1_2 : S8x128x256.ReducesTo [0, 1, 2] S_
  bcast_S_S64 : S_.BroadcastsInDim S64 (![] : Fin 0 → Fin S64.rank)
  reducesTo_S64_S_d0 : S64.ReducesTo [0] S_
  bcast_S_S8 : S_.BroadcastsInDim S8 (![] : Fin 0 → Fin S8.rank)
  reducesTo_S8_S_d0 : S8.ReducesTo [0] S_
  shapeCasts_S_S1 : S_.ShapeCasts S1

variable [Facts]

def fn_part1 {F : FTy → Type} [FloatOps F] (main_arg5 : FVec F S64 .f32) (main_arg6 : FVec F S8 .f32) (main_v13 : IVec S_ 1) (main_v16 : IVec S64 1) : IVec S1 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S8 .f32 := Host.absf main_arg6
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : IVec S1 1 := shapeCast S1 main_v28 shapeCasts_S_S1
  main_v29

def fn {F : FTy → Type} [FloatOps F] (main_arg0 : FVec F S16384x512 .f32) (main_arg1 : FVec F S16384x128 .f32) (main_arg2 : FVec F S16384x128 .f32) (main_arg3 : FVec F S8x128x256 .f32) (main_arg4 : FVec F S64 .f32) (main_arg5 : FVec F S64 .f32) (main_arg6 : FVec F S8 .f32) (main_arg7 : FVec F S512 .f32) : IVec S1 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S8x128x256 .f32 := Host.absf main_arg3
  let main_cst_2 : FVec F S_ .f32 := constant S_ .f32 0x7F800000#32
  let main_v10 : FVec F S8x128x256 .f32 := broadcastInDim S8x128x256 ![] bcast_S_S8x128x256 main_cst_2
  let main_v11 : IVec S8x128x256 1 := cmpf .olt main_v9 main_v10
  let main_c_3 : IVec S_ 1 := constantI S_ 1 1#1
  let main_v12 : IVec S_ 1 := (fun x v => Host.reduce IntOp.andi x v reducesTo_S8x128x256_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S16384x512 : Shape := ⟨2, ![16384, 512]⟩
abbrev S16384x128 : Shape := ⟨2, ![16384, 128]⟩
abbrev S8x128x256 : Shape := ⟨3, ![8, 128, 256]⟩
abbrev S64 : Shape := ⟨1, ![64]⟩
abbrev S8 : Shape := ⟨1, ![8]⟩
abbrev S512 : Shape := ⟨1, ![512]⟩
abbrev S8x2048x128 : Shape := ⟨3, ![8, 2048, 128]⟩
abbrev S8x2048x512 : Shape := ⟨3, ![8, 2048, 512]⟩
abbrev S1x64 : Shape := ⟨2, ![1, 64]⟩
abbrev S1x512 : Shape := ⟨2, ![1, 512]⟩
abbrev S1x128x512 : Shape := ⟨3, ![1, 128, 512]⟩
abbrev S1x128x128 : Shape := ⟨3, ![1, 128, 128]⟩
abbrev S128x128 : Shape := ⟨2, ![128, 128]⟩
abbrev S256x128 : Shape := ⟨2, ![256, 128]⟩
abbrev S512x256 : Shape := ⟨2, ![512, 256]⟩
abbrev S256x64 : Shape := ⟨2, ![256, 64]⟩
abbrev S256 : Shape := ⟨1, ![256]⟩
abbrev S256x1 : Shape := ⟨2, ![256, 1]⟩
abbrev S1x128x64 : Shape := ⟨3, ![1, 128, 64]⟩
abbrev S128x64 : Shape := ⟨2, ![128, 64]⟩
abbrev S128 : Shape := ⟨1, ![128]⟩
abbrev S128x1 : Shape := ⟨2, ![128, 1]⟩
abbrev S1 : Shape := ⟨1, ![1]⟩
abbrev S512x64 : Shape := ⟨2, ![512, 64]⟩
abbrev S512x1 : Shape := ⟨2, ![512, 1]⟩
abbrev S4x128x256 : Shape := ⟨3, ![4, 128, 256]⟩
abbrev S128x512 : Shape := ⟨2, ![128, 512]⟩

abbrev nBuf : Space → Nat
  | .hbm => 15
  | .vmem => 16
  | .smem => 1
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S8x128x256, .f32⟩
  | .hbm, ⟨4, _⟩ => ⟨S64, .f32⟩
  | .hbm, ⟨5, _⟩ => ⟨S64, .f32⟩
  | .hbm, ⟨6, _⟩ => ⟨S8, .f32⟩
  | .hbm, ⟨7, _⟩ => ⟨S512, .f32⟩
  | .hbm, ⟨8, _⟩ => ⟨S8x2048x128, .f32⟩
  | .hbm, ⟨9, _⟩ => ⟨S8x2048x128, .f32⟩
  | .hbm, ⟨10, _⟩ => ⟨S8x2048x512, .f32⟩
  | .hbm, ⟨11, _⟩ => ⟨S1x64, .f32⟩
  | .hbm, ⟨12, _⟩ => ⟨S1x64, .f32⟩
  | .hbm, ⟨13, _⟩ => ⟨S1x512, .f32⟩
  | .hbm, ⟨14, _⟩ => ⟨S8x2048x512, .bf16⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S8x128x256, .f32⟩
  | .local _ .vmem, ⟨11, _⟩ => ⟨S1x64, .f32⟩
  | .local _ .vmem, ⟨12, _⟩ => ⟨S1x64, .f32⟩
  | .local _ .vmem, ⟨13, _⟩ => ⟨S1x512, .f32⟩
  | .local _ .vmem, ⟨14, _⟩ => ⟨S1x128x512, .bf16⟩
  | .local _ .vmem, ⟨15, _⟩ => ⟨S1x128x512, .bf16⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S16384x128 : Shape := ⟨2, ![16384, 128]⟩
abbrev S8x128x256 : Shape := ⟨3, ![8, 128, 256]⟩
abbrev S64 : Shape := ⟨1, ![64]⟩
abbrev S8 : Shape := ⟨1, ![8]⟩
abbrev S512 : Shape := ⟨1, ![512]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S2x4x128x256 : Shape := ⟨4, ![2, 4, 128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S8x2048x8x64 : Shape := ⟨4, ![8, 2048, 8, 64]⟩
abbrev S8x2048x8 : Shape := ⟨3, ![8, 2048, 8]⟩
abbrev S8x2048x8x1 : Shape := ⟨4, ![8, 2048, 8, 1]⟩
abbrev S1x1x1x64 : Shape := ⟨4, ![1, 1, 1, 64]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x16x128x2x4x64 : Shape := ⟨6, ![8, 16, 128, 2, 4, 64]⟩
abbrev S8x2176x2x64 : Shape := ⟨4, ![8, 2176, 2, 64]⟩
abbrev S8x17x128x2x64 : Shape := ⟨5, ![8, 17, 128, 2, 64]⟩
abbrev S8x16x128x2x64 : Shape := ⟨5, ![8, 16, 128, 2, 64]⟩
abbrev S8x16x256x2x64 : Shape := ⟨5, ![8, 16, 256, 2, 64]⟩
abbrev S8x16x2x256x128x4 : Shape := ⟨6, ![8, 16, 2, 256, 128, 4]⟩
abbrev S8x16x2x4x128x256 : Shape := ⟨6, ![8, 16, 2, 4, 128, 256]⟩
abbrev S1x1x2x4x128x256 : Shape := ⟨6, ![1, 1, 2, 4, 128, 256]⟩
abbrev S1x16x1x1x128x256 : Shape := ⟨6, ![1, 16, 1, 1, 128, 256]⟩
abbrev S2x4 : Shape := ⟨2, ![2, 4]⟩
abbrev S1x1x2x4x1 : Shape := ⟨5, ![1, 1, 2, 4, 1]⟩
abbrev S8x16x2x4x128 : Shape := ⟨5, ![8, 16, 2, 4, 128]⟩
abbrev S8x16x2x4x128x1 : Shape := ⟨6, ![8, 16, 2, 4, 128, 1]⟩
abbrev S8x16x2x64x4x128 : Shape := ⟨6, ![8, 16, 2, 64, 4, 128]⟩
abbrev S8x2048x512 : Shape := ⟨3, ![8, 2048, 512]⟩
abbrev S8x2048 : Shape := ⟨2, ![8, 2048]⟩
abbrev S8x2048x1 : Shape := ⟨3, ![8, 2048, 1]⟩
abbrev S1x1x512 : Shape := ⟨3, ![1, 1, 512]⟩

abbrev nBuf : Space → Nat
  | .hbm => 149
  | .vmem => 0
  | .smem => 0
  | _ => 0

abbrev hbmTy0_0 (i : Nat) : BufTy := match i % 128 with
  | 0 => ⟨S16384x512, .f32⟩
  | 1 => ⟨S16384x128, .f32⟩
  | 2 => ⟨S16384x128, .f32⟩
  | 3 => ⟨S8x128x256, .f32⟩
  | 4 => ⟨S64, .f32⟩
  | 5 => ⟨S64, .f32⟩
  | 6 => ⟨S8, .f32⟩
  | 7 => ⟨S512, .f32⟩
  | 8 => ⟨S128, .i32⟩
  | 9 => ⟨S128x1, .i32⟩
  | 10 => ⟨S256, .i32⟩
  | 11 => ⟨S1x256, .i32⟩
  | 12 => ⟨S_, .i32⟩
  | 13 => ⟨S128x1, .i32⟩
  | 14 => ⟨S128x1, .i32⟩
  | 15 => ⟨S128x256, .i32⟩
  | 16 => ⟨S128x256, .i32⟩
  | 17 => ⟨S128x256, .i32⟩
  | 18 => ⟨S2x4x128x256, .f32⟩
  | 19 => ⟨S16, .i32⟩
  | 20 => ⟨S16x1x1, .i32⟩
  | 21 => ⟨S_, .i32⟩
  | 22 => ⟨S16x1x1, .i32⟩
  | 23 => ⟨S16x1x1, .i32⟩
  | 24 => ⟨S_, .i32⟩
  | 25 => ⟨S16x1x1, .i32⟩
  | 26 => ⟨S16x1x1, .i32⟩
  | 27 => ⟨S1x1x256, .i32⟩
  | 28 => ⟨S16x1x256, .i32⟩
  | 29 => ⟨S16x1x256, .i32⟩
  | 30 => ⟨S16x1x256, .i32⟩
  | 31 => ⟨S_, .i32⟩
  | 32 => ⟨S128x256, .i32⟩
  | 33 => ⟨S128x256, .i1⟩
  | 34 => ⟨S1x128x256, .i1⟩
  | 35 => ⟨S_, .i32⟩
  | 36 => ⟨S128x256, .i32⟩
  | 37 => ⟨S128x256, .i1⟩
  | 38 => ⟨S1x128x256, .i1⟩
  | 39 => ⟨S1x128x256, .i1⟩
  | 40 => ⟨S_, .i32⟩
  | 41 => ⟨S16x1x256, .i32⟩
  | 42 => ⟨S16x1x256, .i1⟩
  | 43 => ⟨S16x128x256, .i1⟩
  | 44 => ⟨S16x128x256, .i1⟩
  | 45 => ⟨S16x128x256, .i1⟩
  | 46 => ⟨S8x2048x8x64, .f32⟩
  | 47 => ⟨S8x2048x8x64, .f32⟩
  | 48 => ⟨S_, .f32⟩
  | 49 => ⟨S8x2048x8, .f32⟩
  | 50 => ⟨S8x2048x8x1, .f32⟩
  | 51 => ⟨S_, .f32⟩
  | 52 => ⟨S8x2048x8x1, .f32⟩
  | 53 => ⟨S8x2048x8x1, .f32⟩
  | 54 => ⟨S_, .f32⟩
  | 55 => ⟨S8x2048x8x1, .f32⟩
  | 56 => ⟨S8x2048x8x1, .f32⟩
  | 57 => ⟨S8x2048x8x1, .f32⟩
  | 58 => ⟨S8x2048x8x64, .f32⟩
  | 59 => ⟨S8x2048x8x64, .f32⟩
  | 60 => ⟨S1x1x1x64, .f32⟩
  | 61 => ⟨S8x2048x8x64, .f32⟩
  | 62 => ⟨S8x2048x8x64, .f32⟩
  | 63 => ⟨S8x2048x2x64, .f32⟩
  | 64 => ⟨S8x2048x2x64, .f32⟩
  | 65 => ⟨S_, .f32⟩
  | 66 => ⟨S8x2048x2, .f32⟩
  | 67 => ⟨S8x2048x2x1, .f32⟩
  | 68 => ⟨S_, .f32⟩
  | 69 => ⟨S8x2048x2x1, .f32⟩
  | 70 => ⟨S8x2048x2x1, .f32⟩
  | 71 => ⟨S_, .f32⟩
  | 72 => ⟨S8x2048x2x1, .f32⟩
  | 73 => ⟨S8x2048x2x1, .f32⟩
  | 74 => ⟨S8x2048x2x1, .f32⟩
  | 75 => ⟨S8x2048x2x64, .f32⟩
  | 76 => ⟨S8x2048x2x64, .f32⟩
  | 77 => ⟨S1x1x1x64, .f32⟩
  | 78 => ⟨S8x2048x2x64, .f32⟩
  | 79 => ⟨S8x2048x2x64, .f32⟩
  | 80 => ⟨S8x2048x2x64, .f32⟩
  | 81 => ⟨S8x16x128x2x4x64, .f32⟩
  | 82 => ⟨S_, .i32⟩
  | 83 => ⟨S_, .f32⟩
  | 84 => ⟨S8x2176x2x64, .f32⟩
  | 85 => ⟨S8x17x128x2x64, .f32⟩
  | 86 => ⟨S8x16x128x2x64, .f32⟩
  | 87 => ⟨S8x16x128x2x64, .f32⟩
  | 88 => ⟨S8x16x256x2x64, .f32⟩
  | 89 => ⟨S_, .i32⟩
  | 90 => ⟨S_, .f32⟩
  | 91 => ⟨S8x2176x2x64, .f32⟩
  | 92 => ⟨S8x17x128x2x64, .f32⟩
  | 93 => ⟨S8x16x128x2x64, .f32⟩
  | 94 => ⟨S8x16x128x2x64, .f32⟩
  | 95 => ⟨S8x16x256x2x64, .f32⟩
  | 96 => ⟨S8x16x2x256x128x4, .f32⟩
  | 97 => ⟨S8x16x2x4x128x256, .f32⟩
  | 98 => ⟨S_, .f32⟩
  | 99 => ⟨S8x16x2x4x128x256, .f32⟩
  | 100 => ⟨S8x16x2x4x128x256, .f32⟩
  | 101 => ⟨S1x1x2x4x128x256, .f32⟩
  | 102 => ⟨S8x16x2x4x128x256, .f32⟩
  | 103 => ⟨S8x16x2x4x128x256, .f32⟩
  | 104 => ⟨S1x16x1x1x128x256, .i1⟩
  | 105 => ⟨S_, .f32⟩
  | 106 => ⟨S_, .f32⟩
  | 107 => ⟨S8x16x2x4x128x256, .i1⟩
  | 108 => ⟨S8x16x2x4x128x256, .f32⟩
  | 109 => ⟨S8x16x2x4x128x256, .f32⟩
  | 110 => ⟨S2x4, .f32⟩
  | 111 => ⟨S1x1x2x4x1, .f32⟩
  | 112 => ⟨S_, .f32⟩
  | 113 => ⟨S8x16x2x4x128, .f32⟩
  | 114 => ⟨S8x16x2x4x128, .f32⟩
  | 115 => ⟨S8x16x2x4x128, .f32⟩
  | 116 => ⟨S8x16x2x4x128x1, .f32⟩
  | 117 => ⟨S8x16x2x4x128x256, .f32⟩
  | 118 => ⟨S8x16x2x4x128x256, .f32⟩
  | 119 => ⟨S8x16x2x4x128x256, .f32⟩
  | 120 => ⟨S_, .f32⟩
  | 121 => ⟨S8x16x2x4x128, .f32⟩
  | 122 => ⟨S8x16x2x4x128, .f32⟩
  | 123 => ⟨S8x16x2x4x128, .f32⟩
  | 124 => ⟨S8x16x2x4x128, .f32⟩
  | 125 => ⟨S8x16x2x4x128, .f32⟩
  | 126 => ⟨S8x16x2x4x128x1, .f32⟩
  | 127 => ⟨S8x16x2x4x128x256, .f32⟩
  | _ => ⟨S16384x512, .f32⟩

abbrev hbmTy0_1 (i : Nat) : BufTy := match i % 128 with
  | 0 => ⟨S8x16x2x4x128x256, .f32⟩
  | 1 => ⟨S8x16x2x64x4x128, .f32⟩
  | 2 => ⟨S8x16x128x2x4x64, .f32⟩
  | 3 => ⟨S8x2048x512, .f32⟩
  | 4 => ⟨S8x2048x512, .f32⟩
  | 5 => ⟨S_, .f32⟩
  | 6 => ⟨S8x2048, .f32⟩
  | 7 => ⟨S8x2048x1, .f32⟩
  | 8 => ⟨S_, .f32⟩
  | 9 => ⟨S8x2048x1, .f32⟩
  | 10 => ⟨S8x2048x1, .f32⟩
  | 11 => ⟨S_, .f32⟩
  | 12 => ⟨S8x2048x1, .f32⟩
  | 13 => ⟨S8x2048x1, .f32⟩
  | 14 => ⟨S8x2048x1, .f32⟩
  | 15 => ⟨S8x2048x512, .f32⟩
  | 16 => ⟨S8x2048x512, .f32⟩
  | 17 => ⟨S1x1x512, .f32⟩
  | 18 => ⟨S8x2048x512, .f32⟩
  | 19 => ⟨S8x2048x512, .f32⟩
  | 20 => ⟨S8x2048x512, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_10 : Ref sig .tc := ⟨.hbm, 82, rfl⟩
abbrev main_call0_v0 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_c_11 : Ref sig .tc := ⟨.hbm, 89, rfl⟩
abbrev main_call1_v0 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_14 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_15 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_16 : Ref sig .tc := ⟨.hbm, 133, rfl⟩
abbrev main_v102 : Ref sig .tc := ⟨.hbm, 134, rfl⟩
abbrev main_v103 : Ref sig .tc := ⟨.hbm, 135, rfl⟩
abbrev main_cst_17 : Ref sig .tc := ⟨.hbm, 136, rfl⟩
abbrev main_v104 : Ref sig .tc := ⟨.hbm, 137, rfl⟩
abbrev main_v105 : Ref sig .tc := ⟨.hbm, 138, rfl⟩
abbrev main_cst_18 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩

abbrev nD : Nat := 1
abbrev τ : Topo := Topo.v7x

variable {F : FTy → Type} [FloatOps F]
-- ==== InKernel.lean ====
abbrev S16384x1024 : Shape := ⟨2, ![16384, 1024]⟩
abbrev S1024 : Shape := ⟨1, ![1024]⟩
abbrev S1024x1792 : Shape := ⟨2, ![1024, 1792]⟩
abbrev S1x1024 : Shape := ⟨2, ![1, 1024]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x1792 : Shape := ⟨2, ![512, 1792]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1792, .f32⟩
  | .hbm, ⟨3, _⟩ => ⟨S1x1024, .f32⟩
  | .hbm, ⟨4, _⟩ => ⟨S1024x1792, .bf16⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x128, .f32⟩
  | .hbm, ⟨9, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InReferenceIdeal.lean ====
abbrev S16384x1024 : Shape := ⟨2, ![16384, 1024]⟩
abbrev S1024 : Shape := ⟨1, ![1024]⟩
abbrev S1024x1792 : Shape := ⟨2, ![1024, 1792]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1792 : Shape := ⟨2, ![16384, 1792]⟩
abbrev S16384x512 : Shape := ⟨2, ![16384, 512]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1792, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1792, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x128, .f32⟩
  | .hbm, ⟨24, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== OutKernel.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S16384x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutReferenceIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S16384x1024, .bf16⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== TopKernel.lean ====
abbrev S16384x1024 : Shape := ⟨2, ![16384, 1024]⟩
abbrev S1024x2048 : Shape := ⟨2, ![1024, 2048]⟩
abbrev S8x2x128x128 : Shape := ⟨4, ![8, 2, 128, 128]⟩
abbrev S2048x1024 : Shape := ⟨2, ![2048, 1024]⟩
abbrev S16x128x128 : Shape := ⟨3, ![16, 128, 128]⟩
abbrev S8x16x16384 : Shape := ⟨3, ![8, 16, 16384]⟩
abbrev S256x1024 : Shape := ⟨2, ![256, 1024]⟩
abbrev S8x16x256 : Shape := ⟨3, ![8, 16, 256]⟩
abbrev S2048x256 : Shape := ⟨2, ![2048, 256]⟩
abbrev S128x256 : Shape := ⟨2, ![128, 256]⟩
abbrev S1x128x128 : Shape := ⟨3, ![1, 128, 128]⟩
abbrev S128x128 : Shape := ⟨2, ![128, 128]⟩
abbrev S256 : Shape := ⟨1, ![256]⟩
abbrev S1x256 : Shape := ⟨2, ![1, 256]⟩
abbrev S16x256 : Shape := ⟨2, ![16, 256]⟩
abbrev S256x256 : Shape := ⟨2, ![256, 256]⟩
abbrev S1x16x256 : Shape := ⟨3, ![1, 16, 256]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S8x2x128x128, .f32⟩
  | .hbm, ⟨3, _⟩ => ⟨S2048x1024, .f32⟩
  | .hbm, ⟨4, _⟩ => ⟨S2048x1024, .bf16⟩
  | .hbm, ⟨5, _⟩ => ⟨S16x128x128, .f32⟩
  | .hbm, ⟨6, _⟩ => ⟨S16x128x128, .bf16⟩
  | .hbm, ⟨7, _⟩ => ⟨S8x16x16384, .i32⟩
  | .hbm, ⟨8, _⟩ => ⟨S8x16x16384, .f32⟩
  | .local _ .vmem, ⟨0, _⟩ => ⟨S256x1024, .f32⟩
  | .local _ .vmem, ⟨1, _⟩ => ⟨S256x1024, .f32⟩
  | .local _ .vmem, ⟨2, _⟩ => ⟨S2048x1024, .bf16⟩
  | .local _ .vmem, ⟨3, _⟩ => ⟨S16x128x128, .bf16⟩
  | .local _ .vmem, ⟨4, _⟩ => ⟨S8x16x256, .i32⟩
  | .local _ .vmem, ⟨5, _⟩ => ⟨S8x16x256, .i32⟩
  | .local _ .vmem, ⟨6, _⟩ => ⟨S8x16x256, .f32⟩
  | .local _ .vmem, ⟨7, _⟩ => ⟨S8x16x256, .f32⟩
  | .local _ .vmem, ⟨8, _⟩ => ⟨S2048x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32 : BitVec 32 := 2#32
  let v10 : BitVec 32 := Scalar.muli arg7 c2_i32
  let c0_i32_6 : BitVec 32 := 0#32
  let v11 : BitVec 32 := Scalar.addi v10 c0_i32_6
  let c128_i32 : BitVec 32 := 128#32
  let v12 : BitVec 32 := Scalar.muli v11 c128_i32
  v12
def k0_off1 (k0_t1 : Fin k0_t1_loop.trips) (c0_i32_6 : BitVec 32) : Fin 2 → Nat :=
  let c0_i32 : BitVec 32 := 0#32
  let c1_i32 : BitVec 32 := 1#32
  let arg7 : BitVec 32 := Scf.iv c0_i32 c1_i32 k0_t1
  let c2_i32 : BitVec 32 := 2#32
  let v10 : BitVec 32 := Scalar.muli arg7 c2_i32
  let v11 : BitVec 32 := Scalar.addi v10 c0_i32_6
  let c128_i32 : BitVec 32 := 128#32
  let v12 : BitVec 32 := Scalar.muli v11 c128_i32
  let v13 : BitVec 32 := v12
  let v14 : Index := Scalar.indexCast v13
  let c0_7 : Index := 0#32
  ![v14.toNat, 0]
def k0_off2 (k0_t1 : Fin k0_t1_loop.trips) (c0_i32_6 : BitVec 32) : Fin 3 → Nat :=
  let c0_i32 : BitVec 32 := 0#32
  let c1_i32 : BitVec 32 := 1#32
  let arg7 : BitVec 32 := Scf.iv c0_i32 c1_i32 k0_t1
  let c2_i32 : BitVec 32 := 2#32
  let v10 : BitVec 32 := Scalar.muli arg7 c2_i32
  let v11 : BitVec 32 := Scalar.addi v10 c0_i32_6
  let v16 : Index := Scalar.indexCast v11
  let c0_8 : Index := 0#32
  let c0_9 : Index := 0#32
  ![v16.toNat, 0, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c2_i32_74 : BitVec 32 := 2#32
  let v211 : BitVec 32 := Scalar.muli arg7 c2_i32_74
  let c1_i32_75 : BitVec 32 := 1#32
  let v212 : BitVec 32 := Scalar.addi v211 c1_i32_75
  let c128_i32_76 : BitVec 32 := 128#32
  let v213 : BitVec 32 := Scalar.muli v212 c128_i32_76
  v213
def k0_off3 (k0_t1 : Fin k0_t1_loop.trips) : Fin 3 → Nat :=
  let c0_i32 : BitVec 32 := 0#32
  let c1_i32 : BitVec 32 := 1#32
  let arg7 : BitVec 32 := Scf.iv c0_i32 c1_i32 k0_t1
  let v803 : Index := Scalar.indexCast arg7
  let c0_253 : Index := 0#32
  let c0_254 : Index := 0#32
  ![v803.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x16x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Proof.InValue.lean ====
module

public import proofs.«01_k».proof.Defs
public import proofs.«01_k».proof.Proof.Gen.InKernelIdeal.Value
public import proofs.«01_k».proof.Proof.Gen.InReferenceIdeal.Run
public import proofs.«01_k».proof.Proof.Gen.InReferenceIdeal.Read
public import Idealize.ShloMosaic.Lib.Pointwise
public import Idealize.ShloMosaic.Lib.Tactic

@[expose] public section

set_option maxRecDepth 16384

noncomputable section

namespace Cert.InValue

open Idealize.ShloMosaic Idealize.ShloMosaic.TcCoe Idealize.SL.Sem
open Idealize.ShloMosaic.Pipeline (Dat)
open Cert.InKernelIdeal Cert.InKernelIdeal.Gen

/-- Entry `(r, n)` of the projection: row `r` of `x`, divided by its root mean square (the mean over its 1024 entries, with
    the small constant added) and scaled by `g`, times column `n` of `w`. -/
def proj (x : Vec Ideal S16384x1024 .f32) (g : Vec Ideal S1024 .f32) (w : Vec Ideal S1024x1792 .f32)
    (r : Fin 16384) (n : Fin 1792) : EReal :=
  ∑ k : Fin 1024, x (ix2 r k) * Ideal.rsqrt (Ideal.div (∑ j : Fin 1024, x (ix2 r j) * x (ix2 r j))
    (Ideal.ofBits FTy.f32 1149239296#32) + Ideal.ofBits FTy.f32 897988541#32) * g (ix1 k) * w (ix2 k n)

/-- The reference's product is the projection, entry by entry. -/
theorem ref_apply (x : Vec Ideal S16384x1024 .f32) (g : Vec Ideal S1024 .f32) (w : Vec Ideal S1024x1792 .f32)
    (r : Fin 16384) (n : Fin 1792) :
    Cert.InReferenceIdeal.Read.val_main_v13 (F := Ideal) x g w (ix2 r n) = proj x g w r n := by
  pointwise! [Cert.InReferenceIdeal.Read.val_main_v13, Cert.InReferenceIdeal.Read.val_main_v12_apply,
    Cert.InReferenceIdeal.Read.val_main_v11, Cert.InReferenceIdeal.Read.val_main_v10,
    Cert.InReferenceIdeal.Read.val_main_v9_apply, Cert.InReferenceIdeal.Read.val_main_v8,
    Cert.InReferenceIdeal.Read.val_main_v7_apply, Cert.InReferenceIdeal.Read.val_main_v6_apply,
    Cert.InReferenceIdeal.Read.val_main_v5, Cert.InReferenceIdeal.Read.val_main_v4_apply,
    Cert.InReferenceIdeal.Read.val_main_v3, Cert.InReferenceIdeal.Read.val_main_v2,
    Cert.InReferenceIdeal.Read.val_main_v1, Cert.InReferenceIdeal.Read.val_main_v0_apply,
    Cert.InReferenceIdeal.Read.val_main_cst_apply, Cert.InReferenceIdeal.Read.val_main_cst_0_apply,
    Cert.InReferenceIdeal.Read.val_main_cst_1_apply, proj]

variable (m : (ℓ : Loc nD τ sig) → Buf (Elt Ideal) ℓ) (ρ : Dev nD → PrngReg)

/-- The layer's input, the norm's scale and the weights, as launched on core `c`. -/
abbrev argX (c : Dev nD) : Vec Ideal S16384x1024 .f32 := m ((c : Thread nD τ).loc main_arg0)
abbrev argG (c : Dev nD) : Vec Ideal S1024 .f32 := m ((c : Thread nD τ).loc main_arg1)
abbrev argW (c : Dev nD) : Vec Ideal S1024x1792 .f32 := m ((c : Thread nD τ).loc main_arg2)

/-- The kernel is given the scale as one row. -/
theorem V_main_v0 (c : Dev nD) : V m c main_v0 = shapeCast S1x1024 (argG m c) shapeCasts_S1024_S1x1024 := by
  dsimp only [V, hostOps0]; after_results; rfl

/-- The kernel is given the weights in the narrow format, which changes nothing here. -/
theorem V_main_v1 (c : Dev nD) : V m c main_v1 = argW m c := by
  dsimp only [V, hostOps0]; after_results; rfl

/-- Point `t`'s blocks: 512 rows of the input from row `512 t`, the whole scale, the whole weights. -/
theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel

theorem row_lt (t : Fin cfg0.N) (r : Fin 512) : 512 * t.val + r.val < 16384 := by
  have h : t.val < 32 := lt_of_lt_of_eq t.isLt N_0
  have := r.isLt; omega

theorem blk0 (c : Dev nD) (t : Fin cfg0.N) (r : Fin 512) (k : Fin 1024) :
    iblk m c 0 t (ix2 r k : S512x1024.Idx) = argX m c (ix2 ⟨512 * t.val + r.val, row_lt t r⟩ k) := by
  show V m c main_arg0 ((win0_0.rect t).idx (ix2 r k)) = _
  rw [V_main_arg0]
  refine congrArg (argX m c) (funext fun a => Fin.ext ?_)
  match a with
  | ⟨0, _⟩ => show win0_0.index t 0 * 512 + 1 * r.val = 512 * t.val + r.val
              rw [(idx0 t).1]; omega
  | ⟨1, _⟩ => show win0_0.index t 1 * 1024 + 1 * k.val = k.val
              rw [(idx0 t).2]; omega

theorem blk1 (c : Dev nD) (t : Fin cfg0.N) (k : Fin 1024) :
    iblk m c 1 t (ix2 (0 : Fin 1) k : S1x1024.Idx) = argG m c (ix1 k) := by
  show V m c main_v0 ((win0_1.rect t).idx (ix2 (0 : Fin 1) k)) = _
  rw [V_main_v0]
  have e : (win0_1.rect t).idx (ix2 (0 : Fin 1) k) = (ix2 (0 : Fin 1) k : S1x1024.Idx) := funext fun a => Fin.ext (by
    match a with
    | ⟨0, _⟩ => show win0_1.index t 0 * 1 + 1 * 0 = 0
                rw [(idx1 t).1]
    | ⟨1, _⟩ => show win0_1.index t 1 * 1024 + 1 * k.val = k.val
                rw [(idx1 t).2]; omega)
  rw [e]
  pointwise

theorem blk2 (c : Dev nD) (t : Fin cfg0.N) (k : Fin 1024) (n : Fin 1792) :
    iblk m c 2 t (ix2 k n : S1024x1792.Idx) = argW m c (ix2 k n) := by
  show V m c main_v1 ((win0_2.rect t).idx (ix2 k n)) = _
  rw [V_main_v1]
  refine congrArg (argW m c) (funext fun a => Fin.ext ?_)
  match a with
  | ⟨0, _⟩ => show win0_2.index t 0 * 1024 + 1 * k.val = k.val
              rw [(idx2 t).1]; omega
  | ⟨1, _⟩ => show win0_2.index t 1 * 1792 + 1 * n.val = n.val
              rw [(idx2 t).2]; omega

/-- What the body computes at point `t`, before it is cut into the five results: rows `512 t …` of the projection. -/
theorem pay1_apply (c : Dev nD) (t : Fin cfg0.N) (r : Fin 512) (n : Fin 1792) :
    k0_pay1 (F := Ideal) (iblk m c 0 t) (iblk m c 1 t) (iblk m c 2 t) (ix2 r n)
      = proj (argX m c) (argG m c) (argW m c) ⟨512 * t.val + r.val, row_lt t r⟩ n := by
  have key : ∀ (x : Vec Ideal S512x1024 .f32) (g : Vec Ideal S1x1024 .f32) (w : Vec Ideal S1024x1792 .bf16),
      k0_pay1 x g w (ix2 r n) = ∑ k : Fin 1024, x (ix2 r k) * Ideal.rsqrt (Ideal.div (∑ j : Fin 1024, x (ix2 r j) * x (ix2 r j))
        (Ideal.ofBits FTy.f32 1149239296#32) + Ideal.ofBits FTy.f32 897988541#32) * g (ix2 0 k) * w (ix2 k n) := by
    intro x g w; pointwise [k0_pay1]
  rw [key]
  unfold proj
  simp only [blk0, blk1, blk2]

theorem hz2 : (![0, 0] : Fin 2 → Nat) = fun _ => 0 := funext fun a => by fin_cases a <;> rfl

/-- The whole-array reading of result `o`: columns `o …` of the projection. -/
abbrev part (c : Dev nD) (N : Nat) (off : Nat) (h : off + N ≤ 1792) : (⟨2, ![16384, N]⟩ : Shape).Idx → EReal :=
  fun i => proj (argX m c) (argG m c) (argW m c) (i 0) ⟨off + (i 1).val, by have : (i 1).val < N := (i 1).isLt; omega⟩

/-! ## Result 0: columns 0 to 512 -/

theorem idx3 : ∀ t : Fin grid0.N, win0_3.index t 0 = t.val ∧ win0_3.index t 1 = 0 := by decide +kernel

/-- Point `t` writes back rows `512 t …` of result 0. -/
theorem flushed3_eq (c : Dev nD) (t : Fin cfg0.N) :
    (dats m 0 c).flushed 3 t = (win0_3.blk t).view.read (Elt Ideal) (part m c 512 0 (by omega)) := by
  rw [Value.flushed3]
  unfold out0_3
  rw [View.canon_unit_zero hz2, View.ld_unit_zero hz2, View.ld_unit_zero hz2, View.ld_unit_zero hz2]
  funext j
  obtain ⟨r, n, rfl⟩ : ∃ (r : Fin 512) (n : Fin 512), j = ix2 r n := ⟨j 0, j 1, eq_ix2 j⟩
  show k0_pay2 (F := Ideal) (iblk m c 0 t) (iblk m c 1 t) (iblk m c 2 t) (ix2 r n : S512x512.Idx) = part m c 512 0 (by omega) ((win0_3.rect t).idx (ix2 r n))
  have key : ∀ U : Vec Ideal S512x1792 .f32, extractStridedSlice S512x512 ![0, 0] U slices_S512x1792_o0_0_S512x512 (ix2 r n)
      = U (ix2 r ⟨0 + n.val, by have := n.isLt; omega⟩) := fun U =>
    extractStridedSlice_apply ![0, 0] U slices_S512x1792_o0_0_S512x512 (ix2 r n) _
      (fun a => match a with | ⟨0, _⟩ => (Nat.zero_add _).symm | ⟨1, _⟩ => rfl)
  refine (key (k0_pay1 (F := Ideal) (iblk m c 0 t) (iblk m c 1 t) (iblk m c 2 t))).trans ((pay1_apply m c t r _).trans ?_)
  refine congrArg₂ (proj (argX m c) (argG m c) (argW m c)) (Fin.ext ?_) (Fin.ext ?_)
  · show 512 * t.val + r.val = win0_3.index t 0 * 512 + 1 * r.val
    rw [(idx3 t).1]; omega
  · show 0 + n.val = 0 + (win0_3.index t 1 * 512 + 1 * n.val)
    rw [(idx3 t).2]; omega

theorem mem_blk3 (t : Fin cfg0.N) (i : S16384x512.Idx) :
    i ∈ ((cfg0.win 3).blk t).view.set ↔ 512 * t.val ≤ (i 0).val ∧ (i 0).val < 512 * t.val + 512 := by
  show i ∈ ((View.whole main_v2_0).slice (win0_3.rect t)).set ↔ _
  rw [View.set_slice_whole, Rect.mem_set_unit]
  have h1 : (i 1).val < 512 := (i 1).isLt
  have e := idx3 t
  refine ⟨fun h => ?_, fun h a => ?_⟩
  · have : win0_3.index t 0 * 512 ≤ (i 0).val ∧ (i 0).val < win0_3.index t 0 * 512 + 512 := h 0
    rw [e.1] at this; omega
  · match a with
    | ⟨0, _⟩ => show win0_3.index t 0 * 512 ≤ (i 0).val ∧ (i 0).val < win0_3.index t 0 * 512 + 512
                rw [e.1]; omega
    | ⟨1, _⟩ => show win0_3.index t 1 * 512 ≤ (i 1).val ∧ (i 1).val < win0_3.index t 1 * 512 + 512
                rw [e.2]; omega

/-- The 32 blocks of 512 rows fill result 0. -/
theorem cover3 (i : S16384x512.Idx) : ∃ t : Fin cfg0.N, (cfg0.win 3).flush t = true ∧ i ∈ ((cfg0.win 3).blk t).view.set := by
  have h0 : (i 0).val < 16384 := (i 0).isLt
  have ht : (i 0).val / 512 < cfg0.N := by rw [show cfg0.N = 32 from N_0]; omega
  refine ⟨⟨(i 0).val / 512, ht⟩, flush0_3 _, ?_⟩
  rw [mem_blk3]
  dsimp only
  omega

theorem final3 (c : Dev nD) : (dats m 0 c).arrAt 3 cfg0.N = part m c 512 0 (by omega) :=
  (dats m 0 c).arrAt_eq_of_cover 3 (part m c 512 0 (by omega)) (fun t _ => flushed3_eq m c t) cover3

/-- The reference's result 0 is the same columns. -/
theorem refPart3 (c : Dev nD) : Cert.InReferenceIdeal.Read.val_main_v14 (F := Ideal) (argX m c) (argG m c) (argW m c) = part m c 512 0 (by omega) := by
  funext i
  obtain ⟨r, n, rfl⟩ : ∃ (r : Fin 16384) (n : Fin 512), i = ix2 r n := ⟨i 0, i 1, eq_ix2 i⟩
  rw [Cert.InReferenceIdeal.Read.val_main_v14_apply]
  refine (congrArg _ (funext fun a => Fin.ext ?_)).trans (ref_apply (argX m c) (argG m c) (argW m c) r ⟨0 + n.val, by have := n.isLt; omega⟩)
  match a with
  | ⟨0, _⟩ => first | rfl | exact Nat.zero_add _
  | ⟨1, _⟩ => first | rfl | exact (Nat.zero_add _).symm | exact Nat.add_comm _ _

/-! ## Result 1: columns 512 to 1024 -/

theorem idx4 : ∀ t : Fin grid0.N, win0_4.index t 0 = t.val ∧ win0_4.index t 1 = 0 := by decide +kernel

/-- Point `t` writes back rows `512 t …` of result 1. -/
theorem flushed4_eq (c : Dev nD) (t : Fin cfg0.N) :
    (dats m 0 c).flushed 4 t = (win0_4.blk t).view.read (Elt Ideal) (part m c 512 512 (by omega)) := by
  rw [Value.flushed4]
  unfold out0_4
  rw [View.canon_unit_zero hz2, View.ld_unit_zero hz2, View.ld_unit_zero hz2, View.ld_unit_zero hz2]
  funext j
  obtain ⟨r, n, rfl⟩ : ∃ (r : Fin 512) (n : Fin 512), j = ix2 r n := ⟨j 0, j 1, eq_ix2 j⟩
  show k0_pay3 (F := Ideal) (iblk m c 0 t) (iblk m c 1 t) (iblk m c 2 t) (ix2 r n : S512x512.Idx) = part m c 512 512 (by omega) ((win0_4.rect t).idx (ix2 r n))
  have key : ∀ U : Vec Ideal S512x1792 .f32, extractStridedSlice S512x512 ![0, 512] U slices_S512x1792_o0_512_S512x512 (ix2 r n)
      = U (ix2 r ⟨512 + n.val, by have := n.isLt; omega⟩) := fun U =>
    extractStridedSlice_apply ![0, 512] U slices_S512x1792_o0_512_S512x512 (ix2 r n) _
      (fun a => match a with | ⟨0, _⟩ => (Nat.zero_add _).symm | ⟨1, _⟩ => rfl)
  refine (key (k0_pay1 (F := Ideal) (iblk m c 0 t) (iblk m c 1 t) (iblk m c 2 t))).trans ((pay1_apply m c t r _).trans ?_)
  refine congrArg₂ (proj (argX m c) (argG m c) (argW m c)) (Fin.ext ?_) (Fin.ext ?_)
  · show 512 * t.val + r.val = win0_4.index t 0 * 512 + 1 * r.val
    rw [(idx4 t).1]; omega
  · show 512 + n.val = 512 + (win0_4.index t 1 * 512 + 1 * n.val)
    rw [(idx4 t).2]; omega

theorem mem_blk4 (t : Fin cfg0.N) (i : S16384x512.Idx) :
    i ∈ ((cfg0.win 4).blk t).view.set ↔ 512 * t.val ≤ (i 0).val ∧ (i 0).val < 512 * t.val + 512 := by
  show i ∈ ((View.whole main_v2_1).slice (win0_4.rect t)).set ↔ _
  rw [View.set_slice_whole, Rect.mem_set_unit]
  have h1 : (i 1).val < 512 := (i 1).isLt
  have e := idx4 t
  refine ⟨fun h => ?_, fun h a => ?_⟩
  · have : win0_4.index t 0 * 512 ≤ (i 0).val ∧ (i 0).val < win0_4.index t 0 * 512 + 512 := h 0
    rw [e.1] at this; omega
  · match a with
    | ⟨0, _⟩ => show win0_4.index t 0 * 512 ≤ (i 0).val ∧ (i 0).val < win0_4.index t 0 * 512 + 512
                rw [e.1]; omega
    | ⟨1, _⟩ => show win0_4.index t 1 * 512 ≤ (i 1).val ∧ (i 1).val < win0_4.index t 1 * 512 + 512
                rw [e.2]; omega

/-- The 32 blocks of 512 rows fill result 1. -/
theorem cover4 (i : S16384x512.Idx) : ∃ t : Fin cfg0.N, (cfg0.win 4).flush t = true ∧ i ∈ ((cfg0.win 4).blk t).view.set := by
  have h0 : (i 0).val < 16384 := (i 0).isLt
  have ht : (i 0).val / 512 < cfg0.N := by rw [show cfg0.N = 32 from N_0]; omega
  refine ⟨⟨(i 0).val / 512, ht⟩, flush0_4 _, ?_⟩
  rw [mem_blk4]
  dsimp only
  omega

theorem final4 (c : Dev nD) : (dats m 0 c).arrAt 4 cfg0.N = part m c 512 512 (by omega) :=
  (dats m 0 c).arrAt_eq_of_cover 4 (part m c 512 512 (by omega)) (fun t _ => flushed4_eq m c t) cover4

/-- The reference's result 1 is the same columns. -/
theorem refPart4 (c : Dev nD) : Cert.InReferenceIdeal.Read.val_main_v15 (F := Ideal) (argX m c) (argG m c) (argW m c) = part m c 512 512 (by omega) := by
  funext i
  obtain ⟨r, n, rfl⟩ : ∃ (r : Fin 16384) (n : Fin 512), i = ix2 r n := ⟨i 0, i 1, eq_ix2 i⟩
  rw [Cert.InReferenceIdeal.Read.val_main_v15_apply]
  refine (congrArg _ (funext fun a => Fin.ext ?_)).trans (ref_apply (argX m c) (argG m c) (argW m c) r ⟨512 + n.val, by have := n.isLt; omega⟩)
  match a with
  | ⟨0, _⟩ => first | rfl | exact Nat.zero_add _
  | ⟨1, _⟩ => first | rfl | exact (Nat.zero_add _).symm | exact Nat.add_comm _ _

/-! ## Result 2: columns 1024 to 1536 -/

theorem idx5 : ∀ t : Fin grid0.N, win0_5.index t 0 = t.val ∧ win0_5.index t 1 = 0 := by decide +kernel

/-- Point `t` writes back rows `512 t …` of result 2. -/
theorem flushed5_eq (c : Dev nD) (t : Fin cfg0.N) :
    (dats m 0 c).flushed 5 t = (win0_5.blk t).view.read (Elt Ideal) (part m c 512 1024 (by omega)) := by
  rw [Value.flushed5]
  unfold out0_5
  rw [View.canon_unit_zero hz2, View.ld_unit_zero hz2, View.ld_unit_zero hz2, View.ld_unit_zero hz2]
  funext j
  obtain ⟨r, n, rfl⟩ : ∃ (r : Fin 512) (n : Fin 512), j = ix2 r n := ⟨j 0, j 1, eq_ix2 j⟩
  show k0_pay4 (F := Ideal) (iblk m c 0 t) (iblk m c 1 t) (iblk m c 2 t) (ix2 r n : S512x512.Idx) = part m c 512 1024 (by omega) ((win0_5.rect t).idx (ix2 r n))
  have key : ∀ U : Vec Ideal S512x1792 .f32, extractStridedSlice S512x512 ![0, 1024] U slices_S512x1792_o0_1024_S512x512 (ix2 r n)
      = U (ix2 r ⟨1024 + n.val, by have := n.isLt; omega⟩) := fun U =>
    extractStridedSlice_apply ![0, 1024] U slices_S512x1792_o0_1024_S512x512 (ix2 r n) _
      (fun a => match a with | ⟨0, _⟩ => (Nat.zero_add _).symm | ⟨1, _⟩ => rfl)
  refine (key (k0_pay1 (F := Ideal) (iblk m c 0 t) (iblk m c 1 t) (iblk m c 2 t))).trans ((pay1_apply m c t r _).trans ?_)
  refine congrArg₂ (proj (argX m c) (argG m c) (argW m c)) (Fin.ext ?_) (Fin.ext ?_)
  · show 512 * t.val + r.val = win0_5.index t 0 * 512 + 1 * r.val
    rw [(idx5 t).1]; omega
  · show 1024 + n.val = 1024 + (win0_5.index t 1 * 512 + 1 * n.val)
    rw [(idx5 t).2]; omega

theorem mem_blk5 (t : Fin cfg0.N) (i : S16384x512.Idx) :
    i ∈ ((cfg0.win 5).blk t).view.set ↔ 512 * t.val ≤ (i 0).val ∧ (i 0).val < 512 * t.val + 512 := by
  show i ∈ ((View.whole main_v2_2).slice (win0_5.rect t)).set ↔ _
  rw [View.set_slice_whole, Rect.mem_set_unit]
  have h1 : (i 1).val < 512 := (i 1).isLt
  have e := idx5 t
  refine ⟨fun h => ?_, fun h a => ?_⟩
  · have : win0_5.index t 0 * 512 ≤ (i 0).val ∧ (i 0).val < win0_5.index t 0 * 512 + 512 := h 0
    rw [e.1] at this; omega
  · match a with
    | ⟨0, _⟩ => show win0_5.index t 0 * 512 ≤ (i 0).val ∧ (i 0).val < win0_5.index t 0 * 512 + 512
                rw [e.1]; omega
    | ⟨1, _⟩ => show win0_5.index t 1 * 512 ≤ (i 1).val ∧ (i 1).val < win0_5.index t 1 * 512 + 512
                rw [e.2]; omega

/-- The 32 blocks of 512 rows fill result 2. -/
theorem cover5 (i : S16384x512.Idx) : ∃ t : Fin cfg0.N, (cfg0.win 5).flush t = true ∧ i ∈ ((cfg0.win 5).blk t).view.set := by
  have h0 : (i 0).val < 16384 := (i 0).isLt
  have ht : (i 0).val / 512 < cfg0.N := by rw [show cfg0.N = 32 from N_0]; omega
  refine ⟨⟨(i 0).val / 512, ht⟩, flush0_5 _, ?_⟩
  rw [mem_blk5]
  dsimp only
  omega

theorem final5 (c : Dev nD) : (dats m 0 c).arrAt 5 cfg0.N = part m c 512 1024 (by omega) :=
  (dats m 0 c).arrAt_eq_of_cover 5 (part m c 512 1024 (by omega)) (fun t _ => flushed5_eq m c t) cover5

/-- The reference's result 2 is the same columns. -/
theorem refPart5 (c : Dev nD) : Cert.InReferenceIdeal.Read.val_main_v16 (F := Ideal) (argX m c) (argG m c) (argW m c) = part m c 512 1024 (by omega) := by
  funext i
  obtain ⟨r, n, rfl⟩ : ∃ (r : Fin 16384) (n : Fin 512), i = ix2 r n := ⟨i 0, i 1, eq_ix2 i⟩
  rw [Cert.InReferenceIdeal.Read.val_main_v16_apply]
  refine (congrArg _ (funext fun a => Fin.ext ?_)).trans (ref_apply (argX m c) (argG m c) (argW m c) r ⟨1024 + n.val, by have := n.isLt; omega⟩)
  match a with
  | ⟨0, _⟩ => first | rfl | exact Nat.zero_add _
  | ⟨1, _⟩ => first | rfl | exact (Nat.zero_add _).symm | exact Nat.add_comm _ _

/-! ## Result 3: columns 1536 to 1664 -/

theorem idx6 : ∀ t : Fin grid0.N, win0_6.index t 0 = t.val ∧ win0_6.index t 1 = 0 := by decide +kernel

/-- Point `t` writes back rows `512 t …` of result 3. -/
theorem flushed6_eq (c : Dev nD) (t : Fin cfg0.N) :
    (dats m 0 c).flushed 6 t = (win0_6.blk t).view.read (Elt Ideal) (part m c 128 1536 (by omega)) := by
  rw [Value.flushed6]
  unfold out0_6
  rw [View.canon_unit_zero hz2, View.ld_unit_zero hz2, View.ld_unit_zero hz2, View.ld_unit_zero hz2]
  funext j
  obtain ⟨r, n, rfl⟩ : ∃ (r : Fin 512) (n : Fin 128), j = ix2 r n := ⟨j 0, j 1, eq_ix2 j⟩
  show k0_pay5 (F := Ideal) (iblk m c 0 t) (iblk m c 1 t) (iblk m c 2 t) (ix2 r n : S512x128.Idx) = part m c 128 1536 (by omega) ((win0_6.rect t).idx (ix2 r n))
  have key : ∀ U : Vec Ideal S512x1792 .f32, extractStridedSlice S512x128 ![0, 1536] U slices_S512x1792_o0_1536_S512x128 (ix2 r n)
      = U (ix2 r ⟨1536 + n.val, by have := n.isLt; omega⟩) := fun U =>
    extractStridedSlice_apply ![0, 1536] U slices_S512x1792_o0_1536_S512x128 (ix2 r n) _
      (fun a => match a with | ⟨0, _⟩ => (Nat.zero_add _).symm | ⟨1, _⟩ => rfl)
  refine (key (k0_pay1 (F := Ideal) (iblk m c 0 t) (iblk m c 1 t) (iblk m c 2 t))).trans ((pay1_apply m c t r _).trans ?_)
  refine congrArg₂ (proj (argX m c) (argG m c) (argW m c)) (Fin.ext ?_) (Fin.ext ?_)
  · show 512 * t.val + r.val = win0_6.index t 0 * 512 + 1 * r.val
    rw [(idx6 t).1]; omega
  · show 1536 + n.val = 1536 + (win0_6.index t 1 * 128 + 1 * n.val)
    rw [(idx6 t).2]; omega

theorem mem_blk6 (t : Fin cfg0.N) (i : S16384x128.Idx) :
    i ∈ ((cfg0.win 6).blk t).view.set ↔ 512 * t.val ≤ (i 0).val ∧ (i 0).val < 512 * t.val + 512 := by
  show i ∈ ((View.whole main_v2_3).slice (win0_6.rect t)).set ↔ _
  rw [View.set_slice_whole, Rect.mem_set_unit]
  have h1 : (i 1).val < 128 := (i 1).isLt
  have e := idx6 t
  refine ⟨fun h => ?_, fun h a => ?_⟩
  · have : win0_6.index t 0 * 512 ≤ (i 0).val ∧ (i 0).val < win0_6.index t 0 * 512 + 512 := h 0
    rw [e.1] at this; omega
  · match a with
    | ⟨0, _⟩ => show win0_6.index t 0 * 512 ≤ (i 0).val ∧ (i 0).val < win0_6.index t 0 * 512 + 512
                rw [e.1]; omega
    | ⟨1, _⟩ => show win0_6.index t 1 * 128 ≤ (i 1).val ∧ (i 1).val < win0_6.index t 1 * 128 + 128
                rw [e.2]; omega

/-- The 32 blocks of 512 rows fill result 3. -/
theorem cover6 (i : S16384x128.Idx) : ∃ t : Fin cfg0.N, (cfg0.win 6).flush t = true ∧ i ∈ ((cfg0.win 6).blk t).view.set := by
  have h0 : (i 0).val < 16384 := (i 0).isLt
  have ht : (i 0).val / 512 < cfg0.N := by rw [show cfg0.N = 32 from N_0]; omega
  refine ⟨⟨(i 0).val / 512, ht⟩, flush0_6 _, ?_⟩
  rw [mem_blk6]
  dsimp only
  omega

theorem final6 (c : Dev nD) : (dats m 0 c).arrAt 6 cfg0.N = part m c 128 1536 (by omega) :=
  (dats m 0 c).arrAt_eq_of_cover 6 (part m c 128 1536 (by omega)) (fun t _ => flushed6_eq m c t) cover6

/-- The reference's result 3 is the same columns. -/
theorem refPart6 (c : Dev nD) : Cert.InReferenceIdeal.Read.val_main_v17 (F := Ideal) (argX m c) (argG m c) (argW m c) = part m c 128 1536 (by omega) := by
  funext i
  obtain ⟨r, n, rfl⟩ : ∃ (r : Fin 16384) (n : Fin 128), i = ix2 r n := ⟨i 0, i 1, eq_ix2 i⟩
  rw [Cert.InReferenceIdeal.Read.val_main_v17_apply]
  refine (congrArg _ (funext fun a => Fin.ext ?_)).trans (ref_apply (argX m c) (argG m c) (argW m c) r ⟨1536 + n.val, by have := n.isLt; omega⟩)
  match a with
  | ⟨0, _⟩ => first | rfl | exact Nat.zero_add _
  | ⟨1, _⟩ => first | rfl | exact (Nat.zero_add _).symm | exact Nat.add_comm _ _

/-! ## Result 4: columns 1664 to 1792 -/

theorem idx7 : ∀ t : Fin grid0.N, win0_7.index t 0 = t.val ∧ win0_7.index t 1 = 0 := by decide +kernel

/-- Point `t` writes back rows `512 t …` of result 4. -/
theorem flushed7_eq (c : Dev nD) (t : Fin cfg0.N) :
    (dats m 0 c).flushed 7 t = (win0_7.blk t).view.read (Elt Ideal) (part m c 128 1664 (by omega)) := by
  rw [Value.flushed7]
  unfold out0_7
  rw [View.canon_unit_zero hz2, View.ld_unit_zero hz2, View.ld_unit_zero hz2, View.ld_unit_zero hz2]
  funext j
  obtain ⟨r, n, rfl⟩ : ∃ (r : Fin 512) (n : Fin 128), j = ix2 r n := ⟨j 0, j 1, eq_ix2 j⟩
  show k0_pay6 (F := Ideal) (iblk m c 0 t) (iblk m c 1 t) (iblk m c 2 t) (ix2 r n : S512x128.Idx) = part m c 128 1664 (by omega) ((win0_7.rect t).idx (ix2 r n))
  have key : ∀ U : Vec Ideal S512x1792 .f32, extractStridedSlice S512x128 ![0, 1664] U slices_S512x1792_o0_1664_S512x128 (ix2 r n)
      = U (ix2 r ⟨1664 + n.val, by have := n.isLt; omega⟩) := fun U =>
    extractStridedSlice_apply ![0, 1664] U slices_S512x1792_o0_1664_S512x128 (ix2 r n) _
      (fun a => match a with | ⟨0, _⟩ => (Nat.zero_add _).symm | ⟨1, _⟩ => rfl)
  refine (key (k0_pay1 (F := Ideal) (iblk m c 0 t) (iblk m c 1 t) (iblk m c 2 t))).trans ((pay1_apply m c t r _).trans ?_)
  refine congrArg₂ (proj (argX m c) (argG m c) (argW m c)) (Fin.ext ?_) (Fin.ext ?_)
  · show 512 * t.val + r.val = win0_7.index t 0 * 512 + 1 * r.val
    rw [(idx7 t).1]; omega
  · show 1664 + n.val = 1664 + (win0_7.index t 1 * 128 + 1 * n.val)
    rw [(idx7 t).2]; omega

theorem mem_blk7 (t : Fin cfg0.N) (i : S16384x128.Idx) :
    i ∈ ((cfg0.win 7).blk t).view.set ↔ 512 * t.val ≤ (i 0).val ∧ (i 0).val < 512 * t.val + 512 := by
  show i ∈ ((View.whole main_v2_4).slice (win0_7.rect t)).set ↔ _
  rw [View.set_slice_whole, Rect.mem_set_unit]
  have h1 : (i 1).val < 128 := (i 1).isLt
  have e := idx7 t
  refine ⟨fun h => ?_, fun h a => ?_⟩
  · have : win0_7.index t 0 * 512 ≤ (i 0).val ∧ (i 0).val < win0_7.index t 0 * 512 + 512 := h 0
    rw [e.1] at this; omega
  · match a with
    | ⟨0, _⟩ => show win0_7.index t 0 * 512 ≤ (i 0).val ∧ (i 0).val < win0_7.index t 0 * 512 + 512
                rw [e.1]; omega
    | ⟨1, _⟩ => show win0_7.index t 1 * 128 ≤ (i 1).val ∧ (i 1).val < win0_7.index t 1 * 128 + 128
                rw [e.2]; omega

/-- The 32 blocks of 512 rows fill result 4. -/
theorem cover7 (i : S16384x128.Idx) : ∃ t : Fin cfg0.N, (cfg0.win 7).flush t = true ∧ i ∈ ((cfg0.win 7).blk t).view.set := by
  have h0 : (i 0).val < 16384 := (i 0).isLt
  have ht : (i 0).val / 512 < cfg0.N := by rw [show cfg0.N = 32 from N_0]; omega
  refine ⟨⟨(i 0).val / 512, ht⟩, flush0_7 _, ?_⟩
  rw [mem_blk7]
  dsimp only
  omega

theorem final7 (c : Dev nD) : (dats m 0 c).arrAt 7 cfg0.N = part m c 128 1664 (by omega) :=
  (dats m 0 c).arrAt_eq_of_cover 7 (part m c 128 1664 (by omega)) (fun t _ => flushed7_eq m c t) cover7

/-- The reference's result 4 is the same columns. -/
theorem refPart7 (c : Dev nD) : Cert.InReferenceIdeal.Read.val_main_v18 (F := Ideal) (argX m c) (argG m c) (argW m c) = part m c 128 1664 (by omega) := by
  funext i
  obtain ⟨r, n, rfl⟩ : ∃ (r : Fin 16384) (n : Fin 128), i = ix2 r n := ⟨i 0, i 1, eq_ix2 i⟩
  rw [Cert.InReferenceIdeal.Read.val_main_v18_apply]
  refine (congrArg _ (funext fun a => Fin.ext ?_)).trans (ref_apply (argX m c) (argG m c) (argW m c) r ⟨1664 + n.val, by have := n.isLt; omega⟩)
  match a with
  | ⟨0, _⟩ => first | rfl | exact Nat.zero_add _
  | ⟨1, _⟩ => first | rfl | exact (Nat.zero_add _).symm | exact Nat.add_comm _ _

/-- The claim: the kernel's five results and the reference's are the same five column ranges of the projection. -/
theorem algebraic : Cert.algebraic_InKernelIdeal_InReferenceIdeal := by
  intro m ρ m' ρ' _ hag
  refine ⟨fun c => part m c 512 0 (by omega), fun c => part m c 512 512 (by omega), fun c => part m c 512 1024 (by omega),
    fun c => part m c 128 1536 (by omega), fun c => part m c 128 1664 (by omega), ?_, ?_⟩
  · refine (θ_run _ _ _).mono (fun r h c => ?_) (Value.run_blocks (F := Ideal) m ρ)
    obtain ⟨h3, h4, h5, h6, h7, ha⟩ := h c
    exact ⟨h3.trans (final3 m c), h4.trans (final4 m c), h5.trans (final5 m c), h6.trans (final6 m c), h7.trans (final7 m c), ha⟩
  · refine (θ_run _ _ _).mono (fun r h c => ?_) (Cert.InReferenceIdeal.Value.run (F := Ideal) m' ρ')
    obtain ⟨h3, h4, h5, h6, h7, ha⟩ := h c
    obtain ⟨e0, e1, e2⟩ := hag c
    refine ⟨h3.trans ?_, h4.trans ?_, h5.trans ?_, h6.trans ?_, h7.trans ?_, ha⟩
    · exact (congr (congr (congrArg (Cert.InReferenceIdeal.Read.val_main_v14 (F := Ideal)) e0) e1) e2).trans (refPart3 m c)
    · exact (congr (congr (congrArg (Cert.InReferenceIdeal.Read.val_main_v15 (F := Ideal)) e0) e1) e2).trans (refPart4 m c)
    · exact (congr (congr (congrArg (Cert.InReferenceIdeal.Read.val_main_v16 (F := Ideal)) e0) e1) e2).trans (refPart5 m c)
    · exact (congr (congr (congrArg (Cert.InReferenceIdeal.Read.val_main_v17 (F := Ideal)) e0) e1) e2).trans (refPart6 m c)
    · exact (congr (congr (congrArg (Cert.InReferenceIdeal.Read.val_main_v18 (F := Ideal)) e0) e1) e2).trans (refPart7 m c)

end Cert.InValue
end
-- ==== Proof.OutValue.lean ====
module

public import proofs.«01_k».proof.Defs
public import proofs.«01_k».proof.Proof.Gen.OutKernelIdeal.Value
public import proofs.«01_k».proof.Proof.Gen.OutReferenceIdeal.Run
public import proofs.«01_k».proof.Proof.Gen.OutReferenceIdeal.Read
public import Idealize.ShloMosaic.Lib.Pointwise
public import Idealize.ShloMosaic.Lib.Tactic

@[expose] public section

set_option maxRecDepth 16384

noncomputable section

namespace Cert.OutValue

open Idealize.ShloMosaic Idealize.ShloMosaic.TcCoe Idealize.SL.Sem
open Idealize.ShloMosaic.Pipeline (Dat)
open Cert.OutKernelIdeal Cert.OutKernelIdeal.Gen

/-- Entry `(r, n)` of the mixers' outputs projected back and added to the residual stream: the first 512 rows of the
    weights meet the recurrence's output `a`, the other 512 the attention's output `b`. -/
def added (x : Vec Ideal S16384x1024 .f32) (a b : Vec Ideal S16384x512 .bf16) (w : Vec Ideal S1024x1024 .f32)
    (r : Fin 16384) (n : Fin 1024) : EReal :=
  x (ix2 r n) + (∑ k : Fin 512, a (ix2 r k) * w (ix2 ⟨k.val, by have := k.isLt; omega⟩ n)
    + ∑ k : Fin 512, b (ix2 r k) * w (ix2 ⟨512 + k.val, by have := k.isLt; omega⟩ n))

/-- Entry `(r, n)` of the sum's normalised rows: divided by the root mean square of the row, scaled by `g`. -/
def normed (x : Vec Ideal S16384x1024 .f32) (a b : Vec Ideal S16384x512 .bf16) (w : Vec Ideal S1024x1024 .f32)
    (g : Vec Ideal S1024 .f32) (r : Fin 16384) (n : Fin 1024) : EReal :=
  added x a b w r n * Ideal.rsqrt (Ideal.div (∑ j : Fin 1024, added x a b w r j * added x a b w r j)
    (Ideal.ofBits FTy.f32 1149239296#32) + Ideal.ofBits FTy.f32 897988541#32) * g (ix1 n)

open Cert.OutReferenceIdeal.Read in
/-- The reference's sum is `added`: its one product over the 1024 joined columns is the two products over 512. -/
theorem ref_added (x : Vec Ideal S16384x1024 .f32) (a b : Vec Ideal S16384x512 .bf16) (w : Vec Ideal S1024x1024 .f32)
    (r : Fin 16384) (n : Fin 1024) :
    val_main_v3 (F := Ideal) x a b w (ix2 r n) = added x a b w r n := by
  pointwise [val_main_v3, val_main_v2, val_main_v1, val_main_v0, added]

open Cert.OutReferenceIdeal.Read in
theorem ref_normed (x : Vec Ideal S16384x1024 .f32) (a b : Vec Ideal S16384x512 .bf16) (w : Vec Ideal S1024x1024 .f32)
    (g : Vec Ideal S1024 .f32) (r : Fin 16384) (n : Fin 1024) :
    val_main_v16 (F := Ideal) x a b w g (ix2 r n) = normed x a b w g r n := by
  pointwise [val_main_v16_apply, val_main_v15, val_main_v14, val_main_v13_apply, val_main_v12, val_main_v11_apply,
    val_main_v10_apply, val_main_v9, val_main_v8_apply, val_main_v7, val_main_v6, val_main_v5, val_main_v4_apply,
    val_main_cst_apply, val_main_cst_0_apply, val_main_cst_1_apply, ref_added]
  rfl

variable (m : (ℓ : Loc nD τ sig) → Buf (Elt Ideal) ℓ) (ρ : Dev nD → PrngReg)

/-- The layer's input, the two mixers' outputs, the weights and the norm's scale, as launched on core `c`. -/
abbrev argX (c : Dev nD) : Vec Ideal S16384x1024 .f32 := m ((c : Thread nD τ).loc main_arg0)
abbrev argA (c : Dev nD) : Vec Ideal S16384x512 .bf16 := m ((c : Thread nD τ).loc main_arg1)
abbrev argB (c : Dev nD) : Vec Ideal S16384x512 .bf16 := m ((c : Thread nD τ).loc main_arg2)
abbrev argW (c : Dev nD) : Vec Ideal S1024x1024 .f32 := m ((c : Thread nD τ).loc main_arg3)
abbrev argG (c : Dev nD) : Vec Ideal S1024 .f32 := m ((c : Thread nD τ).loc main_arg4)

/-- The kernel is given the weights in the narrow format, which changes nothing here. -/
theorem V_main_v0 (c : Dev nD) : V m c main_v0 = argW m c := by
  dsimp only [V, hostOps0]; after_results; rfl

/-- The kernel is given the scale as one row. -/
theorem V_main_v1 (c : Dev nD) : V m c main_v1 = shapeCast S1x1024 (argG m c) shapeCasts_S1024_S1x1024 := by
  dsimp only [V, hostOps0]; after_results; rfl

/-! ## Point `t`'s blocks: 512 rows from row `512 t` of the three activations, the whole weights, the whole scale -/

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel

theorem row_lt (t : Fin cfg0.N) (r : Fin 512) : 512 * t.val + r.val < 16384 := by
  have h : t.val < 32 := lt_of_lt_of_eq t.isLt N_0
  have := r.isLt; omega

/-- Row `r` of point `t`'s block, as a row of the array. -/
abbrev row (t : Fin cfg0.N) (r : Fin 512) : Fin 16384 := ⟨512 * t.val + r.val, row_lt t r⟩

theorem blk0 (c : Dev nD) (t : Fin cfg0.N) (r : Fin 512) (k : Fin 1024) :
    iblk m c 0 t (ix2 r k : S512x1024.Idx) = argX m c (ix2 (row t r) k) := by
  show V m c main_arg0 ((win0_0.rect t).idx (ix2 r k)) = _
  rw [V_main_arg0]
  refine congrArg (argX m c) (funext fun a => Fin.ext ?_)
  match a with
  | ⟨0, _⟩ => show win0_0.index t 0 * 512 + 1 * r.val = 512 * t.val + r.val
              rw [(idx0 t).1]; omega
  | ⟨1, _⟩ => show win0_0.index t 1 * 1024 + 1 * k.val = k.val
              rw [(idx0 t).2]; omega

theorem blk1 (c : Dev nD) (t : Fin cfg0.N) (r : Fin 512) (k : Fin 512) :
    iblk m c 1 t (ix2 r k : S512x512.Idx) = argA m c (ix2 (row t r) k) := by
  show V m c main_arg1 ((win0_1.rect t).idx (ix2 r k)) = _
  rw [V_main_arg1]
  refine congrArg (argA m c) (funext fun a => Fin.ext ?_)
  match a with
  | ⟨0, _⟩ => show win0_1.index t 0 * 512 + 1 * r.val = 512 * t.val + r.val
              rw [(idx1 t).1]; omega
  | ⟨1, _⟩ => show win0_1.index t 1 * 512 + 1 * k.val = k.val
              rw [(idx1 t).2]; omega

theorem blk2 (c : Dev nD) (t : Fin cfg0.N) (r : Fin 512) (k : Fin 512) :
    iblk m c 2 t (ix2 r k : S512x512.Idx) = argB m c (ix2 (row t r) k) := by
  show V m c main_arg2 ((win0_2.rect t).idx (ix2 r k)) = _
  rw [V_main_arg2]
  refine congrArg (argB m c) (funext fun a => Fin.ext ?_)
  match a with
  | ⟨0, _⟩ => show win0_2.index t 0 * 512 + 1 * r.val = 512 * t.val + r.val
              rw [(idx2 t).1]; omega
  | ⟨1, _⟩ => show win0_2.index t 1 * 512 + 1 * k.val = k.val
              rw [(idx2 t).2]; omega

theorem blk3 (c : Dev nD) (t : Fin cfg0.N) (k n : Fin 1024) :
    iblk m c 3 t (ix2 k n : S1024x1024.Idx) = argW m c (ix2 k n) := by
  show V m c main_v0 ((win0_3.rect t).idx (ix2 k n)) = _
  rw [V_main_v0]
  refine congrArg (argW m c) (funext fun a => Fin.ext ?_)
  match a with
  | ⟨0, _⟩ => show win0_3.index t 0 * 1024 + 1 * k.val = k.val
              rw [(idx3 t).1]; omega
  | ⟨1, _⟩ => show win0_3.index t 1 * 1024 + 1 * n.val = n.val
              rw [(idx3 t).2]; omega

theorem blk4 (c : Dev nD) (t : Fin cfg0.N) (k : Fin 1024) :
    iblk m c 4 t (ix2 (0 : Fin 1) k : S1x1024.Idx) = argG m c (ix1 k) := by
  show V m c main_v1 ((win0_4.rect t).idx (ix2 (0 : Fin 1) k)) = _
  rw [V_main_v1]
  have e : (win0_4.rect t).idx (ix2 (0 : Fin 1) k) = (ix2 (0 : Fin 1) k : S1x1024.Idx) := funext fun a => Fin.ext (by
    match a with
    | ⟨0, _⟩ => show win0_4.index t 0 * 1 + 1 * 0 = 0
                rw [(idx4 t).1]
    | ⟨1, _⟩ => show win0_4.index t 1 * 1024 + 1 * k.val = k.val
                rw [(idx4 t).2]; omega)
  rw [e]
  pointwise

theorem hz2 : (![0, 0] : Fin 2 → Nat) = fun _ => 0 := funext fun a => by fin_cases a <;> rfl

/-- A load of a whole block is the block. -/
theorem ld0 (x : Vec Ideal S512x512 .bf16) : View.ld x r0_0 = x := View.ld_unit_zero hz2 _ x
theorem ld3 (x : Vec Ideal S512x1024 .f32) : View.ld x r0_3 = x := View.ld_unit_zero hz2 _ x
theorem ld4 (x : Vec Ideal S1x1024 .f32) : View.ld x r0_4 = x := View.ld_unit_zero hz2 _ x

/-- The two results as whole arrays. -/
abbrev G5 (c : Dev nD) : S16384x1024.Idx → EReal := fun i => added (argX m c) (argA m c) (argB m c) (argW m c) (i 0) (i 1)
abbrev G6 (c : Dev nD) : S16384x1024.Idx → EReal := fun i => normed (argX m c) (argA m c) (argB m c) (argW m c) (argG m c) (i 0) (i 1)

/-- What the body computes at point `t` from its blocks: rows `512 t …` of the sum. -/
theorem pay1_apply (c : Dev nD) (t : Fin cfg0.N) (r : Fin 512) (n : Fin 1024) :
    k0_pay1 (F := Ideal) (iblk m c 1 t) (View.ld (iblk m c 3 t) r0_1) (iblk m c 2 t) (View.ld (iblk m c 3 t) r0_2) (iblk m c 0 t) (ix2 r n)
      = added (argX m c) (argA m c) (argB m c) (argW m c) (row t r) n := by
  have key : ∀ (x : Vec Ideal S512x1024 .f32) (a b : Vec Ideal S512x512 .bf16) (w : Vec Ideal S1024x1024 .bf16),
      k0_pay1 a (View.ld w r0_1) b (View.ld w r0_2) x (ix2 r n) = x (ix2 r n) + (∑ k : Fin 512, a (ix2 r k) * w (ix2 ⟨k.val, by have := k.isLt; omega⟩ n)
        + ∑ k : Fin 512, b (ix2 r k) * w (ix2 ⟨512 + k.val, by have := k.isLt; omega⟩ n)) := by
    intro x a b w
    pointwise [k0_pay1]
  refine (key (iblk m c 0 t) (iblk m c 1 t) (iblk m c 2 t) (iblk m c 3 t)).trans ?_
  unfold added
  simp only [blk0, blk1, blk2, blk3]

theorem pay2_apply (c : Dev nD) (t : Fin cfg0.N) (r : Fin 512) (n : Fin 1024) :
    k0_pay2 (F := Ideal) (iblk m c 1 t) (View.ld (iblk m c 3 t) r0_1) (iblk m c 2 t) (View.ld (iblk m c 3 t) r0_2) (iblk m c 0 t) (iblk m c 4 t) (ix2 r n)
      = normed (argX m c) (argA m c) (argB m c) (argW m c) (argG m c) (row t r) n := by
  have key : ∀ (x : Vec Ideal S512x1024 .f32) (a b : Vec Ideal S512x512 .bf16) (w w' : Vec Ideal S512x1024 .bf16) (g : Vec Ideal S1x1024 .f32),
      k0_pay2 a w b w' x g (ix2 r n) = k0_pay1 a w b w' x (ix2 r n) * Ideal.rsqrt (Ideal.div (∑ j : Fin 1024, k0_pay1 a w b w' x (ix2 r j) * k0_pay1 a w b w' x (ix2 r j))
    (Ideal.ofBits FTy.f32 1149239296#32) + Ideal.ofBits FTy.f32 897988541#32) * g (ix2 0 n) := by
    intro x a b w w' g
    pointwise [k0_pay2]
  refine (key (iblk m c 0 t) (iblk m c 1 t) (iblk m c 2 t) (View.ld (iblk m c 3 t) r0_1) (View.ld (iblk m c 3 t) r0_2) (iblk m c 4 t)).trans ?_
  unfold normed
  simp only [pay1_apply, blk4]

/-! ## Result 0 -/

theorem idx5 : ∀ t : Fin grid0.N, win0_5.index t 0 = t.val ∧ win0_5.index t 1 = 0 := by decide +kernel

/-- Point `t` writes back rows `512 t …` of result 0. -/
theorem flushed5_eq (c : Dev nD) (t : Fin cfg0.N) :
    (dats m 0 c).flushed 5 t = (win0_5.blk t).view.read (Elt Ideal) (G5 m c) := by
  rw [Value.flushed5]
  unfold out0_5
  rw [View.canon_unit_zero hz2]
  rw [ld0 (iblk m c 1 t), ld0 (iblk m c 2 t), ld3 (iblk m c 0 t)]
  funext j
  obtain ⟨r, n, rfl⟩ : ∃ (r : Fin 512) (n : Fin 1024), j = ix2 r n := ⟨j 0, j 1, eq_ix2 j⟩
  show k0_pay1 (F := Ideal) (iblk m c 1 t) (View.ld (iblk m c 3 t) r0_1) (iblk m c 2 t) (View.ld (iblk m c 3 t) r0_2) (iblk m c 0 t) (ix2 r n : S512x1024.Idx) = G5 m c ((win0_5.rect t).idx (ix2 r n))
  rw [pay1_apply]
  refine congrArg₂ (added (argX m c) (argA m c) (argB m c) (argW m c)) (Fin.ext ?_) (Fin.ext ?_)
  · show 512 * t.val + r.val = win0_5.index t 0 * 512 + 1 * r.val
    rw [(idx5 t).1]; omega
  · show n.val = win0_5.index t 1 * 1024 + 1 * n.val
    rw [(idx5 t).2]; omega

theorem mem_blk5 (t : Fin cfg0.N) (i : S16384x1024.Idx) :
    i ∈ ((cfg0.win 5).blk t).view.set ↔ 512 * t.val ≤ (i 0).val ∧ (i 0).val < 512 * t.val + 512 := by
  show i ∈ ((View.whole main_v2_0).slice (win0_5.rect t)).set ↔ _
  rw [View.set_slice_whole, Rect.mem_set_unit]
  have h1 : (i 1).val < 1024 := (i 1).isLt
  have e := idx5 t
  refine ⟨fun h => ?_, fun h a => ?_⟩
  · have : win0_5.index t 0 * 512 ≤ (i 0).val ∧ (i 0).val < win0_5.index t 0 * 512 + 512 := h 0
    rw [e.1] at this; omega
  · match a with
    | ⟨0, _⟩ => show win0_5.index t 0 * 512 ≤ (i 0).val ∧ (i 0).val < win0_5.index t 0 * 512 + 512
                rw [e.1]; omega
    | ⟨1, _⟩ => show win0_5.index t 1 * 1024 ≤ (i 1).val ∧ (i 1).val < win0_5.index t 1 * 1024 + 1024
                rw [e.2]; omega

/-- The 32 blocks of 512 rows fill result 0. -/
theorem cover5 (i : S16384x1024.Idx) : ∃ t : Fin cfg0.N, (cfg0.win 5).flush t = true ∧ i ∈ ((cfg0.win 5).blk t).view.set := by
  have h0 : (i 0).val < 16384 := (i 0).isLt
  have ht : (i 0).val / 512 < cfg0.N := by rw [show cfg0.N = 32 from N_0]; omega
  refine ⟨⟨(i 0).val / 512, ht⟩, flush0_5 _, ?_⟩
  rw [mem_blk5]
  dsimp only
  omega

theorem final5 (c : Dev nD) : (dats m 0 c).arrAt 5 cfg0.N = G5 m c :=
  (dats m 0 c).arrAt_eq_of_cover 5 (G5 m c) (fun t _ => flushed5_eq m c t) cover5

/-- The reference's result 0 is the same array. -/
theorem refG5 (c : Dev nD) : Cert.OutReferenceIdeal.Read.val_main_v3 (F := Ideal) (argX m c) (argA m c) (argB m c) (argW m c) = G5 m c := by
  funext i
  obtain ⟨r, n, rfl⟩ : ∃ (r : Fin 16384) (n : Fin 1024), i = ix2 r n := ⟨i 0, i 1, eq_ix2 i⟩
  exact ref_added _ _ _ _ r n

/-! ## Result 1 -/

theorem idx6 : ∀ t : Fin grid0.N, win0_6.index t 0 = t.val ∧ win0_6.index t 1 = 0 := by decide +kernel

/-- Point `t` writes back rows `512 t …` of result 1. -/
theorem flushed6_eq (c : Dev nD) (t : Fin cfg0.N) :
    (dats m 0 c).flushed 6 t = (win0_6.blk t).view.read (Elt Ideal) (G6 m c) := by
  rw [Value.flushed6]
  unfold out0_6
  rw [View.canon_unit_zero hz2]
  rw [ld0 (iblk m c 1 t), ld0 (iblk m c 2 t), ld3 (iblk m c 0 t), ld4 (iblk m c 4 t)]
  funext j
  obtain ⟨r, n, rfl⟩ : ∃ (r : Fin 512) (n : Fin 1024), j = ix2 r n := ⟨j 0, j 1, eq_ix2 j⟩
  show k0_pay2 (F := Ideal) (iblk m c 1 t) (View.ld (iblk m c 3 t) r0_1) (iblk m c 2 t) (View.ld (iblk m c 3 t) r0_2) (iblk m c 0 t) (iblk m c 4 t) (ix2 r n : S512x1024.Idx) = G6 m c ((win0_6.rect t).idx (ix2 r n))
  rw [pay2_apply]
  refine congrArg₂ (normed (argX m c) (argA m c) (argB m c) (argW m c) (argG m c)) (Fin.ext ?_) (Fin.ext ?_)
  · show 512 * t.val + r.val = win0_6.index t 0 * 512 + 1 * r.val
    rw [(idx6 t).1]; omega
  · show n.val = win0_6.index t 1 * 1024 + 1 * n.val
    rw [(idx6 t).2]; omega

theorem mem_blk6 (t : Fin cfg0.N) (i : S16384x1024.Idx) :
    i ∈ ((cfg0.win 6).blk t).view.set ↔ 512 * t.val ≤ (i 0).val ∧ (i 0).val < 512 * t.val + 512 := by
  show i ∈ ((View.whole main_v2_1).slice (win0_6.rect t)).set ↔ _
  rw [View.set_slice_whole, Rect.mem_set_unit]
  have h1 : (i 1).val < 1024 := (i 1).isLt
  have e := idx6 t
  refine ⟨fun h => ?_, fun h a => ?_⟩
  · have : win0_6.index t 0 * 512 ≤ (i 0).val ∧ (i 0).val < win0_6.index t 0 * 512 + 512 := h 0
    rw [e.1] at this; omega
  · match a with
    | ⟨0, _⟩ => show win0_6.index t 0 * 512 ≤ (i 0).val ∧ (i 0).val < win0_6.index t 0 * 512 + 512
                rw [e.1]; omega
    | ⟨1, _⟩ => show win0_6.index t 1 * 1024 ≤ (i 1).val ∧ (i 1).val < win0_6.index t 1 * 1024 + 1024
                rw [e.2]; omega

/-- The 32 blocks of 512 rows fill result 1. -/
theorem cover6 (i : S16384x1024.Idx) : ∃ t : Fin cfg0.N, (cfg0.win 6).flush t = true ∧ i ∈ ((cfg0.win 6).blk t).view.set := by
  have h0 : (i 0).val < 16384 := (i 0).isLt
  have ht : (i 0).val / 512 < cfg0.N := by rw [show cfg0.N = 32 from N_0]; omega
  refine ⟨⟨(i 0).val / 512, ht⟩, flush0_6 _, ?_⟩
  rw [mem_blk6]
  dsimp only
  omega

theorem final6 (c : Dev nD) : (dats m 0 c).arrAt 6 cfg0.N = G6 m c :=
  (dats m 0 c).arrAt_eq_of_cover 6 (G6 m c) (fun t _ => flushed6_eq m c t) cover6

/-- The reference's result 1 is the same array. -/
theorem refG6 (c : Dev nD) : Cert.OutReferenceIdeal.Read.val_main_v16 (F := Ideal) (argX m c) (argA m c) (argB m c) (argW m c) (argG m c) = G6 m c := by
  funext i
  obtain ⟨r, n, rfl⟩ : ∃ (r : Fin 16384) (n : Fin 1024), i = ix2 r n := ⟨i 0, i 1, eq_ix2 i⟩
  exact ref_normed _ _ _ _ _ r n

/-- The claim: the kernel's two results and the reference's are the same two arrays. -/
theorem algebraic : Cert.algebraic_OutKernelIdeal_OutReferenceIdeal := by
  intro m ρ m' ρ' _ hag
  refine ⟨fun c => G5 m c, fun c => G6 m c, ?_, ?_⟩
  · refine (θ_run _ _ _).mono (fun r h c => ?_) (Value.run_blocks (F := Ideal) m ρ)
    obtain ⟨h5, h6, ha⟩ := h c
    exact ⟨h5.trans (final5 m c), h6.trans (final6 m c), ha⟩
  · refine (θ_run _ _ _).mono (fun r h c => ?_) (Cert.OutReferenceIdeal.Value.run (F := Ideal) m' ρ')
    obtain ⟨h5, h6, ha⟩ := h c
    obtain ⟨e0, e1, e2, e3, e4⟩ := hag c
    refine ⟨h5.trans ?_, h6.trans ?_, ha⟩
    · exact (congr (congr (congr (congrArg (Cert.OutReferenceIdeal.Read.val_main_v3 (F := Ideal)) e0) e1) e2) e3).trans (refG5 m c)
    · exact (congr (congr (congr (congr (congrArg (Cert.OutReferenceIdeal.Read.val_main_v16 (F := Ideal)) e0) e1) e2) e3) e4).trans (refG6 m c)

end Cert.OutValue
end
-- ==== Proof.SwaMath.lean ====
module

public import Idealize.ShloMosaic.Lib.Pointwise
public import Idealize.ShloMosaic.Lib.Tactic

@[expose] public section

set_option maxRecDepth 16384

noncomputable section

namespace Cert.SwaMath

open Idealize.ShloMosaic

/-- Entry `d` of a head's row, divided by the row's root mean square over its 64 entries (with the small constant added)
    and scaled. -/
def nrm (v g : Fin 64 → EReal) (d : Fin 64) : EReal :=
  v d * Ideal.rsqrt (Ideal.div (∑ x, v x * v x) (Ideal.ofBits FTy.f32 1115684864#32) + Ideal.ofBits FTy.f32 897988541#32) * g d

/-- The score of a query against key `j`: their product over the head, scaled, with the position's bias; −∞ for a key
    outside the window. -/
def score (ok : Fin 256 → Bool) (q : Fin 64 → EReal) (k : Fin 256 → Fin 64 → EReal) (b : Fin 256 → EReal) (j : Fin 256) : EReal :=
  if ok j then (∑ d, q d * k j d) * Ideal.ofBits FTy.f32 1040187392#32 + b j else ⊥

/-- The largest of the scores and of the sink. -/
def top (s : Fin 256 → EReal) (sink : EReal) : EReal := max (Finset.univ.fold max ⊥ s) sink

/-- The weight of key `j` before it is normalised. -/
def wt (s : Fin 256 → EReal) (sink : EReal) (j : Fin 256) : EReal := Ideal.exp (s j - top s sink)

/-- The sum of the weights, the sink's own among them. -/
def den (s : Fin 256 → EReal) (sink : EReal) : EReal := ∑ j, wt s sink j + Ideal.exp (sink - top s sink)

/-- What a query takes of the values `v` (one column of them): their weighted sum, divided by the sum of the weights. -/
def att (s : Fin 256 → EReal) (sink : EReal) (v : Fin 256 → EReal) : EReal :=
  Ideal.div (∑ j, wt s sink j * v j) (den s sink)

/-- The scores depend on the keys inside the window alone. -/
theorem score_congr {ok : Fin 256 → Bool} {q : Fin 64 → EReal} {k k' : Fin 256 → Fin 64 → EReal} {b : Fin 256 → EReal}
    (h : ∀ j, ok j = true → k j = k' j) : score ok q k b = score ok q k' b := by
  funext j
  unfold score
  by_cases hj : ok j = true
  · rw [if_pos hj, if_pos hj, h j hj]
  · rw [if_neg hj, if_neg hj]

/-- A key outside the window has weight zero. -/
theorem wt_of_bot {s : Fin 256 → EReal} {sink : EReal} {j : Fin 256} (h : s j = ⊥) : wt s sink j = 0 := by
  unfold wt; rw [h, EReal.bot_sub, Ideal.exp_bot]

/-- The weighted sum depends on the values inside the window alone. -/
theorem att_congr {s : Fin 256 → EReal} {sink : EReal} {v v' : Fin 256 → EReal}
    (h : ∀ j, s j ≠ ⊥ → v j = v' j) : att s sink v = att s sink v' := by
  unfold att
  refine congrArg (fun x => Ideal.div x _) (Finset.sum_congr rfl fun j _ => ?_)
  by_cases hj : s j = ⊥
  · rw [wt_of_bot hj, zero_mul, zero_mul]
  · rw [h j hj]

/-- Dividing by a positive real number is multiplying by one, which a sum passes through. -/
theorem sum_div {r : ℝ} (hr : 0 < r) (w v : Fin 256 → EReal) :
    Ideal.div (∑ j, w j * v j) (r : EReal) = ∑ j, v j * Ideal.div (w j) (r : EReal) := by
  simp only [Ideal.div_coe hr.ne']
  have hc : (0 : ℝ) ≤ 1 / r := by positivity
  generalize 1 / r = c at hc
  have key : ∀ t : Finset (Fin 256), (∑ j ∈ t, w j * v j) * ((c : ℝ) : EReal) = ∑ j ∈ t, v j * (w j * ((c : ℝ) : EReal)) := by
    intro t
    induction t using Finset.cons_induction with
    | empty => simp
    | cons a t ha ih =>
      rw [Finset.sum_cons, Finset.sum_cons,
        EReal.right_distrib_of_nonneg_of_ne_top (by exact_mod_cast hc) (EReal.coe_ne_top _), ih]
      congr 1
      ac_rfl
  exact key _

/-- Where the sink is a real number and no score is +∞, the sum of the weights is a positive real number. -/
theorem den_real {s : Fin 256 → EReal} {sink : EReal} (hs : ∀ j, s j ≠ ⊤) (h : sink ≠ ⊤ ∧ sink ≠ ⊥) :
    ∃ r : ℝ, 0 < r ∧ den s sink = (r : EReal) := by
  have htop : top s sink ≠ ⊤ := by
    refine ne_of_lt (max_lt ?_ (lt_top_iff_ne_top.mpr h.1))
    exact (Finset.fold_max_lt ⊤).mpr ⟨bot_lt_top, fun j _ => lt_top_iff_ne_top.mpr (hs j)⟩
  have hbot : top s sink ≠ ⊥ := fun e => h.2 (le_bot_iff.mp (e ▸ le_max_right _ _))
  obtain ⟨T, hT⟩ : ∃ T : ℝ, top s sink = (T : EReal) := ⟨_, (EReal.coe_toReal htop hbot).symm⟩
  have hw : ∀ j, ∃ w : ℝ, 0 ≤ w ∧ wt s sink j = (w : EReal) := by
    intro j
    by_cases hj : s j = ⊥
    · exact ⟨0, le_rfl, by rw [wt_of_bot hj]; rfl⟩
    · refine ⟨Real.exp ((s j).toReal - T), (Real.exp_pos _).le, ?_⟩
      unfold wt
      rw [hT, ← EReal.coe_toReal (hs j) hj, ← EReal.coe_sub, Ideal.exp_coe, EReal.toReal_coe]
  choose w hw0 hwe using hw
  refine ⟨∑ j, w j + Real.exp (sink.toReal - T), add_pos_of_nonneg_of_pos (Finset.sum_nonneg fun j _ => hw0 j) (Real.exp_pos _), ?_⟩
  unfold den
  have e1 : ∀ t : Finset (Fin 256), ∑ j ∈ t, wt s sink j = ((∑ j ∈ t, w j : ℝ) : EReal) := by
    intro t
    induction t using Finset.cons_induction with
    | empty => simp
    | cons a t ha ih => rw [Finset.sum_cons, Finset.sum_cons, ih, hwe, EReal.coe_add]
  rw [e1, hT, ← EReal.coe_toReal h.1 h.2, ← EReal.coe_sub, Ideal.exp_coe, EReal.coe_add, EReal.toReal_coe]

/-- So normalising every weight before the sum gives the same as dividing the sum. -/
theorem att_eq {s : Fin 256 → EReal} {sink : EReal} (hs : ∀ j, s j ≠ ⊤) (h : sink ≠ ⊤ ∧ sink ≠ ⊥) (v : Fin 256 → EReal) :
    att s sink v = ∑ j, v j * Ideal.div (wt s sink j) (den s sink) := by
  obtain ⟨r, hr, e⟩ := den_real hs h
  unfold att
  rw [e]
  exact sum_div hr _ _

/-- The patterns of 64 and of the small constant are positive real numbers, that of an eighth is a real number. -/
theorem ofBits_64 : ∃ r : ℝ, 0 < r ∧ Ideal.ofBits FTy.f32 1115684864#32 = (r : EReal) :=
  ⟨64, by norm_num, by simp [Ideal.ofBits, Ideal.ieee, -EReal.coe_mul]; norm_num⟩

theorem ofBits_eps : ∃ r : ℝ, 0 < r ∧ Ideal.ofBits FTy.f32 897988541#32 = (r : EReal) := by
  refine ⟨8796093 * (2 : ℝ) ^ (-43 : ℤ), by positivity, ?_⟩
  simp [Ideal.ofBits, Ideal.ieee, -EReal.coe_mul]

theorem ofBits_eighth : ∃ r : ℝ, Ideal.ofBits FTy.f32 1040187392#32 = (r : EReal) :=
  ⟨1 / 8, by simp [Ideal.ofBits, Ideal.ieee, -EReal.coe_mul]; norm_num⟩

/-- The pattern of −∞. -/
theorem ofBits_neg_inf : Ideal.ofBits FTy.f32 4286578688#32 = ⊥ := by
  simp [Ideal.ofBits, Ideal.ieee]

/-- The pattern of zero. -/
theorem ofBits_zero : Ideal.ofBits FTy.f32 0#32 = 0 := by
  simp [Ideal.ofBits, Ideal.ieee]

/-- A sum of products of real numbers is a real number. -/
theorem sum_mul_real {u v : Fin 64 → EReal} (hu : ∀ d, ∃ r : ℝ, u d = (r : EReal)) (hv : ∀ d, ∃ r : ℝ, v d = (r : EReal)) :
    ∃ r : ℝ, ∑ d, u d * v d = (r : EReal) := by
  choose u' hu using hu
  choose v' hv using hv
  refine ⟨∑ d, u' d * v' d, ?_⟩
  have key : ∀ t : Finset (Fin 64), ∑ d ∈ t, u d * v d = ((∑ d ∈ t, u' d * v' d : ℝ) : EReal) := by
    intro t
    induction t using Finset.cons_induction with
    | empty => simp
    | cons a t ha ih => rw [Finset.sum_cons, Finset.sum_cons, ih, hu, hv, EReal.coe_add, EReal.coe_mul]
  exact key _

/-- A row of real numbers keeps real entries when it is normalised. -/
theorem nrm_real {v g : Fin 64 → EReal} (hv : ∀ d, ∃ r : ℝ, v d = (r : EReal)) (hg : ∀ d, ∃ r : ℝ, g d = (r : EReal))
    (d : Fin 64) : ∃ r : ℝ, nrm v g d = (r : EReal) := by
  choose v' hv using hv
  choose g' hg using hg
  obtain ⟨a, ha, ea⟩ := ofBits_64
  obtain ⟨e, he, ee⟩ := ofBits_eps
  have key : ∀ t : Finset (Fin 64), ∑ d ∈ t, v d * v d = ((∑ d ∈ t, v' d * v' d : ℝ) : EReal) := by
    intro t
    induction t using Finset.cons_induction with
    | empty => simp
    | cons a t ha ih => rw [Finset.sum_cons, Finset.sum_cons, ih, hv, EReal.coe_add, EReal.coe_mul]
  have hpos : 0 < (∑ d, v' d * v' d) * (1 / a) + e :=
    add_pos_of_nonneg_of_pos (mul_nonneg (Finset.sum_nonneg fun _ _ => mul_self_nonneg _) (by positivity)) he
  unfold nrm
  rw [key, ea, ee, Ideal.div_coe ha.ne', ← EReal.coe_mul, ← EReal.coe_add, hv, hg]
  have hr : Ideal.rsqrt (((∑ d, v' d * v' d) * (1 / a) + e : ℝ) : EReal)
      = (((Real.sqrt ((∑ d, v' d * v' d) * (1 / a) + e))⁻¹ : ℝ) : EReal) := by
    show (if _ then _ else if _ then _ else _) = _
    rw [if_neg (not_lt.mpr hpos.le), if_neg hpos.ne']
  rw [hr, ← EReal.coe_mul, ← EReal.coe_mul]
  exact ⟨_, rfl⟩

/-- So no score of real queries, keys and biases is +∞. -/
theorem score_ne_top {ok : Fin 256 → Bool} {q : Fin 64 → EReal} {k : Fin 256 → Fin 64 → EReal} {b : Fin 256 → EReal}
    (hq : ∀ d, ∃ r : ℝ, q d = (r : EReal)) (hk : ∀ j d, ∃ r : ℝ, k j d = (r : EReal)) (hb : ∀ j, ∃ r : ℝ, b j = (r : EReal))
    (j : Fin 256) : score ok q k b j ≠ ⊤ := by
  unfold score
  split
  · obtain ⟨x, hx⟩ := sum_mul_real hq (hk j)
    obtain ⟨y, hy⟩ := hb j
    obtain ⟨z, hz⟩ := ofBits_eighth
    rw [hx, hy, hz, ← EReal.coe_mul, ← EReal.coe_add]
    exact EReal.coe_ne_top _
  · exact bot_ne_top

end Cert.SwaMath
-- ==== Proof.SwaSpec.lean ====
module

public import proofs.«01_k».proof.Defs
public import proofs.«01_k».proof.Proof.SwaMath

@[expose] public section

set_option maxRecDepth 16384

noncomputable section

namespace Cert.SwaSpec

open Idealize.ShloMosaic Idealize.SL.Sem
open Cert.SwaMath
open Cert.ReferenceIdeal

/-! ## The attention, entry by entry -/

/-- Key `j` of the 256 beside block `n` (the block before it, then its own) is in the window of the block's query `i`: not
    after it, fewer than 128 positions before it, and not before the sequence's start. -/
def ok (n : Fin 16) (i : Fin 128) (j : Fin 256) : Bool :=
  decide (i.val < j.val ∧ j.val ≤ i.val + 128 ∧ (0 < n.val ∨ 128 ≤ j.val))

/-- The row of query `i` of block `n` of sequence `b`, and that of its key `j`. -/
def qrow (b : Fin 8) (n : Fin 16) (i : Fin 128) : Fin 16384 := ⟨b.val * 2048 + (n.val * 128 + i.val), by omega⟩
def krow (b : Fin 8) (n : Fin 16) (j : Fin 256) : Fin 16384 := ⟨b.val * 2048 + (n.val * 128 + j.val - 128), by omega⟩

/-- The column of entry `d` of query head `h`, and that of key head `hk`. -/
def qcol (h : Fin 8) (d : Fin 64) : Fin 512 := ⟨h.val * 64 + d.val, by omega⟩
def kcol (hk : Fin 2) (d : Fin 64) : Fin 128 := ⟨hk.val * 64 + d.val, by omega⟩

/-- Query head `g` of the four that share key head `hk`. -/
def hd (hk : Fin 2) (g : Fin 4) : Fin 8 := ⟨hk.val * 4 + g.val, by omega⟩

variable (q : Vec Ideal S16384x512 .f32) (k v : Vec Ideal S16384x128 .f32) (bi : Vec Ideal S8x128x256 .f32)
  (qg kg : Vec Ideal S64 .f32) (sk : Vec Ideal S8 .f32) (og : Vec Ideal S512 .f32)

/-- The normalised query and the normalised key. -/
def qn (b : Fin 8) (n : Fin 16) (h : Fin 8) (i : Fin 128) : Fin 64 → EReal :=
  nrm (fun x => q (ix2 (qrow b n i) (qcol h x))) (fun x => qg (ix1 x))
def kn (b : Fin 8) (n : Fin 16) (hk : Fin 2) (j : Fin 256) : Fin 64 → EReal :=
  nrm (fun x => k (ix2 (krow b n j) (kcol hk x))) (fun x => kg (ix1 x))

/-- The scores of query `i` of block `n` of sequence `b` in head `4 hk + g`. -/
def scores (b : Fin 8) (n : Fin 16) (hk : Fin 2) (g : Fin 4) (i : Fin 128) : Fin 256 → EReal :=
  score (ok n i) (qn q qg b n (hd hk g) i) (fun j => kn k kg b n hk j) (fun j => bi (ix3 (hd hk g) i j))

/-- What that query takes of the values, entry `d`. -/
def head (b : Fin 8) (n : Fin 16) (hk : Fin 2) (g : Fin 4) (i : Fin 128) (d : Fin 64) : EReal :=
  att (scores q k bi qg kg b n hk g i) (sk (ix1 (hd hk g))) (fun j => v (ix2 (krow b n j) (kcol hk d)))

/-- The heads side by side: column `c` is entry `c mod 64` of head `c / 64`. -/
def heads (b : Fin 8) (s : Fin 2048) (c : Fin 512) : EReal :=
  head q k v bi qg kg sk b ⟨s.val / 128, by omega⟩ ⟨c.val / 256, by omega⟩ ⟨c.val / 64 % 4, by omega⟩
    ⟨s.val % 128, by omega⟩ ⟨c.val % 64, by omega⟩

/-- The attention's output: the heads side by side, divided by the row's root mean square over its 512 entries (with the
    small constant added) and scaled. -/
def out (b : Fin 8) (s : Fin 2048) (c : Fin 512) : EReal :=
  heads q k v bi qg kg sk b s c * Ideal.rsqrt (Ideal.div (∑ x, heads q k v bi qg kg sk b s x * heads q k v bi qg kg sk b s x)
    (Ideal.ofBits FTy.f32 1140850688#32) + Ideal.ofBits FTy.f32 897988541#32) * og (ix1 c)

end Cert.SwaSpec
-- ==== Proof.SwaMask.lean ====
module

public import proofs.«01_k».proof.Defs
public import proofs.«01_k».proof.Proof.Gen.KernelIdeal.Skeleton
public import proofs.«01_k».proof.Proof.SwaSpec
public import Idealize.ShloMosaic.Lib.Pointwise
public import Idealize.ShloMosaic.Lib.Tactic

@[expose] public section

set_option maxRecDepth 16384

noncomputable section

namespace Cert.SwaMask

open Idealize.ShloMosaic Idealize.ShloMosaic.TcCoe Idealize.SL.Sem
open Cert.SwaMath Cert.SwaSpec
open Cert.KernelIdeal Cert.KernelIdeal.Gen

/-! ## The mask -/

/-- The kernel's mask, over the four heads of a key head at once. -/
abbrev kmask (p : grid0.Coords) : IVec S512x256 1 :=
  k0_pay7 k0_pay4 (iota .tc S512x256 32 [1] iota_S512x256_d1_w32) k0_pay5 (k0_pay6 p)

/-- The kernel's position within the block: the remainder of the row by 128. -/
theorem pay4_apply (r : Fin 512) (j : Fin 256) : k0_pay4 (ix2 r j) = BitVec.ofNat 32 (r.val % 128) := by
  pointwise [k0_pay4]
  revert r
  decide +kernel

/-- Its comparisons of positions are the window. -/
theorem window_words : ∀ (b : Bool) (i : Fin 128) (j : Fin 256),
    IntOp.andi
      (IntOp.cmpi CmpIPredicate.sgt (BitVec.ofNat 32 j.val)
        (IntOp.maxsi (IntOp.addi (BitVec.ofNat 32 i.val) 0#32) (IntOp.subi (if b then 0#32 else 128#32) 1#32)))
      (IntOp.cmpi CmpIPredicate.sle (BitVec.ofNat 32 j.val) (IntOp.addi (BitVec.ofNat 32 i.val) 128#32))
      = BitVec.ofBool (decide (i.val < j.val ∧ j.val ≤ i.val + 128 ∧ (b = true ∨ 128 ≤ j.val))) := by decide +kernel

theorem kmask_apply (p : grid0.Coords) (n : Fin 16) (hn : (p 1).val = n.val) (r : Fin 512) (j : Fin 256) :
    kmask p (ix2 r j) = BitVec.ofBool (ok n ⟨r.val % 128, by omega⟩ j) := by
  have hw : ∀ n : Fin 16, Scalar.subi (Scalar.select (Scalar.cmpi CmpIPredicate.sgt (BitVec.ofNat 32 n.val) 0#32) 0#32 128#32) 1#32
      = IntOp.subi (if decide (0 < n.val) then 0#32 else 128#32) 1#32 := by decide +kernel
  pointwise [k0_pay7, k0_pay6, k0_pay5, pay4_apply]
  rw [hn, hw n]
  refine (window_words (decide (0 < n.val)) ⟨r.val % 128, by omega⟩ j).trans ?_
  unfold ok
  simp only [decide_eq_true_eq]

end Cert.SwaMask
-- ==== Proof.SwaHead.lean ====
module

public import proofs.«01_k».proof.Defs
public import proofs.«01_k».proof.Proof.Gen.KernelIdeal.Skeleton
public import proofs.«01_k».proof.Proof.SwaSpec
public import Idealize.ShloMosaic.Lib.Pointwise
public import Idealize.ShloMosaic.Lib.Tactic

@[expose] public section

set_option maxRecDepth 16384

noncomputable section

namespace Cert.SwaHead

open Idealize.ShloMosaic Idealize.ShloMosaic.TcCoe Idealize.SL.Sem
open Cert.SwaMath Cert.SwaSpec
open Cert.KernelIdeal Cert.KernelIdeal.Gen

/-! ## The normalised queries and keys -/

theorem pay8_apply (x : FVec Ideal S256x128 .f32) (g : Vec Ideal S1x64 .f32) (j : Fin 256) (d : Fin 64) :
    k0_pay8 x g (ix2 j d) = nrm (fun y => x (ix2 j ⟨y.val, by omega⟩)) (fun y => g (ix2 0 y)) d := by
  pointwise! [k0_pay8, nrm]

theorem pay22_apply (x : FVec Ideal S256x128 .f32) (g : Vec Ideal S1x64 .f32) (j : Fin 256) (d : Fin 64) :
    k0_pay22 (k0_pay21 x) g (ix2 j d) = nrm (fun y => x (ix2 j ⟨64 + y.val, by omega⟩)) (fun y => g (ix2 0 y)) d := by
  pointwise! [k0_pay22, k0_pay21, nrm]

variable (x : Vec Ideal S1x128x64 .f32) (g : Vec Ideal S1x64 .f32)

theorem pay9_apply (i : Fin 128) (d : Fin 64) :
    k0_pay9 x g (ix2 i d) = nrm (fun y => x (ix3 0 i y)) (fun y => g (ix2 0 y)) d := by
  pointwise! [k0_pay9, nrm]

theorem pay11_apply (i : Fin 128) (d : Fin 64) :
    k0_pay11 x g (ix2 i d) = nrm (fun y => x (ix3 0 i y)) (fun y => g (ix2 0 y)) d := by
  pointwise! [k0_pay11, nrm]

theorem pay13_apply (i : Fin 128) (d : Fin 64) :
    k0_pay13 x g (ix2 i d) = nrm (fun y => x (ix3 0 i y)) (fun y => g (ix2 0 y)) d := by
  pointwise! [k0_pay13, nrm]

theorem pay23_apply (i : Fin 128) (d : Fin 64) :
    k0_pay23 x g (ix2 i d) = nrm (fun y => x (ix3 0 i y)) (fun y => g (ix2 0 y)) d := by
  pointwise! [k0_pay23, nrm]

theorem pay28_apply (i : Fin 128) (d : Fin 64) :
    k0_pay28 (k0_pay25 x) (k0_pay26 g) (k0_pay27 x) (ix2 i d) = nrm (fun y => x (ix3 0 i y)) (fun y => g (ix2 0 y)) d := by
  pointwise! [k0_pay28, k0_pay25, k0_pay26, k0_pay27, nrm]

theorem pay30_apply (i : Fin 128) (d : Fin 64) :
    k0_pay30 x g (ix2 i d) = nrm (fun y => x (ix3 0 i y)) (fun y => g (ix2 0 y)) d := by
  pointwise! [k0_pay30, nrm]

/-! ## Arrays laid beside one another -/

theorem pick {n w : Nat} {T : Type} (A : Fin n → Fin w → T) {h k : Fin n} {i z : Fin w} (e : k = h) (e' : z = i) :
    A k z = A h i := by rw [e, e']

/-- Row `i` of the `g`-th of four arrays laid one under the other. -/
theorem cat4_apply (A : Fin 4 → FVec Ideal S128x64 .bf16) (g : Fin 4) (i : Fin 128) (y : Fin 64) :
    concatenate S512x64 0 [⟨S128x64, A 0⟩, ⟨S128x64, A 1⟩, ⟨S128x64, A 2⟩, ⟨S128x64, A 3⟩]
      concatenates_S128x64_S128x64_S128x64_S128x64_S512x64_d0 (ix2 ⟨g.val * 128 + i.val, by omega⟩ y) = A g (ix2 i y) := by
  pointwise
  by_cases c1 : g.val * 128 + i.val < 128
  · rw [dif_pos c1]
    exact pick (fun k z => A k (ix2 z y)) (h := g) (k := 0) (Fin.ext (by show 0 = g.val; omega)) (Fin.ext (by show g.val * 128 + i.val = i.val; omega))
  rw [dif_neg c1]
  by_cases c2 : g.val * 128 + i.val - 128 < 128
  · rw [dif_pos c2]
    exact pick (fun k z => A k (ix2 z y)) (h := g) (k := 1) (Fin.ext (by show 1 = g.val; omega)) (Fin.ext (by show g.val * 128 + i.val - 128 = i.val; omega))
  rw [dif_neg c2]
  by_cases c3 : g.val * 128 + i.val - 128 - 128 < 128
  · rw [dif_pos c3]
    exact pick (fun k z => A k (ix2 z y)) (h := g) (k := 2) (Fin.ext (by show 2 = g.val; omega)) (Fin.ext (by show g.val * 128 + i.val - 128 - 128 = i.val; omega))
  rw [dif_neg c3]
  exact pick (fun k z => A k (ix2 z y)) (h := g) (k := 3) (Fin.ext (by show 3 = g.val; omega)) (Fin.ext (by show g.val * 128 + i.val - 128 - 128 - 128 = i.val; omega))

theorem cat1_apply (A : Fin 4 → FVec Ideal S128x1 .f32) (g : Fin 4) (i : Fin 128) :
    concatenate S512x1 0 [⟨S128x1, A 0⟩, ⟨S128x1, A 1⟩, ⟨S128x1, A 2⟩, ⟨S128x1, A 3⟩]
      concatenates_S128x1_S128x1_S128x1_S128x1_S512x1_d0 (ix2 ⟨g.val * 128 + i.val, by omega⟩ 0) = A g (ix2 i 0) := by
  pointwise
  by_cases c1 : g.val * 128 + i.val < 128
  · rw [dif_pos c1]
    exact pick (fun k z => A k (ix2 z 0)) (h := g) (k := 0) (Fin.ext (by show 0 = g.val; omega)) (Fin.ext (by show g.val * 128 + i.val = i.val; omega))
  rw [dif_neg c1]
  by_cases c2 : g.val * 128 + i.val - 128 < 128
  · rw [dif_pos c2]
    exact pick (fun k z => A k (ix2 z 0)) (h := g) (k := 1) (Fin.ext (by show 1 = g.val; omega)) (Fin.ext (by show g.val * 128 + i.val - 128 = i.val; omega))
  rw [dif_neg c2]
  by_cases c3 : g.val * 128 + i.val - 128 - 128 < 128
  · rw [dif_pos c3]
    exact pick (fun k z => A k (ix2 z 0)) (h := g) (k := 2) (Fin.ext (by show 2 = g.val; omega)) (Fin.ext (by show g.val * 128 + i.val - 128 - 128 = i.val; omega))
  rw [dif_neg c3]
  exact pick (fun k z => A k (ix2 z 0)) (h := g) (k := 3) (Fin.ext (by show 3 = g.val; omega)) (Fin.ext (by show g.val * 128 + i.val - 128 - 128 - 128 = i.val; omega))

/-- Entry `d` of the `h`-th of eight arrays laid side by side. -/
theorem cat8_apply (A : Fin 8 → FVec Ideal S128x64 .f32) (h : Fin 8) (i : Fin 128) (d : Fin 64) :
    concatenate S128x512 1 [⟨S128x64, A 0⟩, ⟨S128x64, A 1⟩, ⟨S128x64, A 2⟩, ⟨S128x64, A 3⟩, ⟨S128x64, A 4⟩, ⟨S128x64, A 5⟩,
        ⟨S128x64, A 6⟩, ⟨S128x64, A 7⟩]
      concatenates_S128x64_S128x64_S128x64_S128x64_S128x64_S128x64_S128x64_S128x64_S128x512_d1
      (ix2 i ⟨h.val * 64 + d.val, by omega⟩) = A h (ix2 i d) := by
  pointwise
  by_cases c1 : h.val * 64 + d.val < 64
  · rw [dif_pos c1]
    exact pick (fun k z => A k (ix2 i z)) (h := h) (k := 0) (Fin.ext (by show 0 = h.val; omega)) (Fin.ext (by show h.val * 64 + d.val = d.val; omega))
  rw [dif_neg c1]
  by_cases c2 : h.val * 64 + d.val - 64 < 64
  · rw [dif_pos c2]
    exact pick (fun k z => A k (ix2 i z)) (h := h) (k := 1) (Fin.ext (by show 1 = h.val; omega)) (Fin.ext (by show h.val * 64 + d.val - 64 = d.val; omega))
  rw [dif_neg c2]
  by_cases c3 : h.val * 64 + d.val - 64 - 64 < 64
  · rw [dif_pos c3]
    exact pick (fun k z => A k (ix2 i z)) (h := h) (k := 2) (Fin.ext (by show 2 = h.val; omega)) (Fin.ext (by show h.val * 64 + d.val - 64 - 64 = d.val; omega))
  rw [dif_neg c3]
  by_cases c4 : h.val * 64 + d.val - 64 - 64 - 64 < 64
  · rw [dif_pos c4]
    exact pick (fun k z => A k (ix2 i z)) (h := h) (k := 3) (Fin.ext (by show 3 = h.val; omega)) (Fin.ext (by show h.val * 64 + d.val - 64 - 64 - 64 = d.val; omega))
  rw [dif_neg c4]
  by_cases c5 : h.val * 64 + d.val - 64 - 64 - 64 - 64 < 64
  · rw [dif_pos c5]
    exact pick (fun k z => A k (ix2 i z)) (h := h) (k := 4) (Fin.ext (by show 4 = h.val; omega)) (Fin.ext (by show h.val * 64 + d.val - 64 - 64 - 64 - 64 = d.val; omega))
  rw [dif_neg c5]
  by_cases c6 : h.val * 64 + d.val - 64 - 64 - 64 - 64 - 64 < 64
  · rw [dif_pos c6]
    exact pick (fun k z => A k (ix2 i z)) (h := h) (k := 5) (Fin.ext (by show 5 = h.val; omega)) (Fin.ext (by show h.val * 64 + d.val - 64 - 64 - 64 - 64 - 64 = d.val; omega))
  rw [dif_neg c6]
  by_cases c7 : h.val * 64 + d.val - 64 - 64 - 64 - 64 - 64 - 64 < 64
  · rw [dif_pos c7]
    exact pick (fun k z => A k (ix2 i z)) (h := h) (k := 6) (Fin.ext (by show 6 = h.val; omega)) (Fin.ext (by show h.val * 64 + d.val - 64 - 64 - 64 - 64 - 64 - 64 = d.val; omega))
  rw [dif_neg c7]
  exact pick (fun k z => A k (ix2 i z)) (h := h) (k := 7) (Fin.ext (by show 7 = h.val; omega)) (Fin.ext (by show h.val * 64 + d.val - 64 - 64 - 64 - 64 - 64 - 64 - 64 = d.val; omega))

/-! ## One key head's four query heads -/

theorem select_bot (b : Bool) (x : EReal) : Scalar.select (BitVec.ofBool b) x ⊥ = if b = true then x else ⊥ := by
  cases b <;> rfl

theorem mask_bot : Named.named (F := Ideal) (φ := .f32) κ "mask" 0xF149F2CA#32 = ⊥ :=
  IdealRules.named_const.ideal_named_scalar κ "mask" (φ := .f32) 0xF149F2CA#32 ⊥ rfl

/-- The position of row `r` within its block. -/
def rem (r : Fin 512) : Fin 128 := ⟨r.val % 128, by omega⟩

/-- The kernel's attention of one key head: the four query heads that share it under one another (`v133`, with their sinks
    `v134`), the keys `v56` and the values `v155`. -/
def core (v40 : IVec S512x256 1) (v56 : FVec Ideal S256x64 .bf16) (v133 : FVec Ideal S512x64 .bf16) (v134 : FVec Ideal S512x1 .f32)
    (v138 : Vec Ideal S4x128x256 .f32) (v155 : FVec Ideal S256x64 .bf16) : FVec Ideal S512x64 .f32 :=
  have v135 : FVec Ideal S512x256 .f32 := matmul dot_S512x64_S256x64_S512x256_1_1_0_0_n_n none v133 v56 (constant S512x256 .f32 0x00000000#32)
  have v137 : FVec Ideal S512x256 .f32 := mulf v135 (broadcast S512x256 (Scalar.ofBits .f32 0x3E000000#32))
  have v140 : FVec Ideal S512x256 .f32 := addf v137 (shapeCast S512x256 v138 shapeCasts_S4x128x256_S512x256)
  have v142 : FVec Ideal S512x256 .f32 := select v40 v140 (broadcast S512x256 (Named.named κ "mask" 0xF149F2CA#32))
  have v144 : FVec Ideal S512x1 .f32 := shapeCast S512x1
    (multiReduction .maximumf [1] S512 v142 0xFF800000#32 reduces_S512x256_S512 (.inl rfl) rfl) shapeCasts_S512_S512x1
  have v145 : FVec Ideal S512x1 .f32 := maximumf v144 v134
  have v148 : FVec Ideal S512x256 .f32 := exp (subf v142 (broadcastTo S512x256 v145 broadcasts_S512x1_S512x256))
  have v150 : FVec Ideal S512x1 .f32 := shapeCast S512x1
    (multiReduction .add [1] S512 v148 0x00000000#32 reduces_S512x256_S512 (.inl rfl) rfl) shapeCasts_S512_S512x1
  have v153 : FVec Ideal S512x1 .f32 := addf v150 (exp (subf v134 v145))
  have v154 : FVec Ideal S512x256 .bf16 := truncf .bf16 v148 bitsLt_bf16_f32
  have v156 : FVec Ideal S512x64 .f32 := matmul dot_S512x256_S256x64_S512x64_1_0_0_1_n_n none v154 v155 (constant S512x64 .f32 0x00000000#32)
  divf v156 (broadcastTo S512x64 v153 broadcasts_S512x1_S512x64)

variable (v12 : FVec Ideal S256x128 .bf16) (v40 : IVec S512x256 1) (v56 : FVec Ideal S256x64 .bf16)
  (v138 : Vec Ideal S4x128x256 .f32) (okk : Fin 128 → Fin 256 → Bool)
  (hm : ∀ (r : Fin 512) (j : Fin 256), v40 (ix2 r j) = BitVec.ofBool (okk (rem r) j))

include hm in
/-- Each of its rows is one query's attention. -/
theorem core_apply (v133 : FVec Ideal S512x64 .bf16) (v134 : FVec Ideal S512x1 .f32) (v155 : FVec Ideal S256x64 .bf16)
    (r : Fin 512) (d : Fin 64) :
    core v40 v56 v133 v134 v138 v155 (ix2 r d)
      = att (score (okk (rem r)) (fun x => v133 (ix2 r x)) (fun j x => v56 (ix2 j x))
          (fun j => v138 (ix3 ⟨r.val / 128, by omega⟩ ⟨r.val % 128, by omega⟩ j)))
        (v134 (ix2 r 0)) (fun j => v155 (ix2 j d)) := by
  pointwise [core]
  simp only [hm, mask_bot, select_bot, ofBits_neg_inf]
  rfl

include hm in
/-- Row `i` of the `g`-th of the four heads. -/
theorem core_head (A : Fin 4 → FVec Ideal S128x64 .bf16) (S : Fin 4 → FVec Ideal S128x1 .f32) (v155 : FVec Ideal S256x64 .bf16)
    (g : Fin 4) (i : Fin 128) (d : Fin 64) :
    core v40 v56
        (concatenate S512x64 0 [⟨S128x64, A 0⟩, ⟨S128x64, A 1⟩, ⟨S128x64, A 2⟩, ⟨S128x64, A 3⟩]
          concatenates_S128x64_S128x64_S128x64_S128x64_S512x64_d0)
        (concatenate S512x1 0 [⟨S128x1, S 0⟩, ⟨S128x1, S 1⟩, ⟨S128x1, S 2⟩, ⟨S128x1, S 3⟩]
          concatenates_S128x1_S128x1_S128x1_S128x1_S512x1_d0) v138 v155 (ix2 ⟨g.val * 128 + i.val, by omega⟩ d)
      = att (score (okk i) (fun x => A g (ix2 i x)) (fun j x => v56 (ix2 j x)) (fun j => v138 (ix3 g i j)))
        (S g (ix2 i 0)) (fun j => v155 (ix2 j d)) := by
  rw [core_apply v40 v56 v138 okk hm, cat1_apply S g i]
  have e3 : (⟨(g.val * 128 + i.val) / 128, by omega⟩ : Fin 4) = g := Fin.ext (by show (g.val * 128 + i.val) / 128 = g.val; omega)
  have e4 : (⟨(g.val * 128 + i.val) % 128, by omega⟩ : Fin 128) = i := Fin.ext (by show (g.val * 128 + i.val) % 128 = i.val; omega)
  have e5 : rem ⟨g.val * 128 + i.val, by omega⟩ = i := e4
  simp only [cat4_apply A g i, e3, e4, e5]

end Cert.SwaHead
-- ==== Proof.SwaBody.lean ====
module

public import proofs.«01_k».proof.Defs
public import proofs.«01_k».proof.Proof.Gen.KernelIdeal.Skeleton
public import proofs.«01_k».proof.Proof.SwaMask
public import proofs.«01_k».proof.Proof.SwaHead
public import Idealize.ShloMosaic.Lib.Pointwise
public import Idealize.ShloMosaic.Lib.Tactic

@[expose] public section

set_option maxRecDepth 65536

noncomputable section

namespace Cert.SwaBody

open Idealize.ShloMosaic Idealize.ShloMosaic.TcCoe Idealize.SL.Sem
open Cert.SwaMath Cert.SwaSpec Cert.SwaMask Cert.SwaHead
open Cert.KernelIdeal Cert.KernelIdeal.Gen

/-- The block before and the block itself, one under the other. -/
def two (a b : Vec Ideal S1x128x128 .f32) (j : Fin 256) (c : Fin 128) : EReal :=
  if h : j.val < 128 then a (ix3 0 ⟨j.val, h⟩ c) else b (ix3 0 ⟨j.val - 128, by omega⟩ c)

theorem pay2_apply (a b : Vec Ideal S1x128x128 .f32) (j : Fin 256) (c : Fin 128) : k0_pay2 a b (ix2 j c) = two a b j c := by
  pointwise! [k0_pay2, two]

theorem pay3_apply (a b : Vec Ideal S1x128x128 .f32) (j : Fin 256) (c : Fin 128) : k0_pay3 a b (ix2 j c) = two a b j c := by
  pointwise! [k0_pay3, two]

variable (X : Fin 8 → Vec Ideal S1x128x64 .f32) (σ : Fin 8 → Elt Ideal .f32) (g w : Vec Ideal S1x64 .f32)
  (kp kc vp vc : Vec Ideal S1x128x128 .f32) (B0 B1 : Vec Ideal S4x128x256 .f32) (p : grid0.Coords)

/-- The attention of the first key head's queries, the four heads under one another, and of the second's. -/
def low : FVec Ideal S512x64 .f32 :=
  core (kmask p) (k0_pay8 (k0_pay2 kp kc) w)
    (concatenate S512x64 0 [⟨S128x64, k0_pay9 (X 0) g⟩, ⟨S128x64, k0_pay9 (X 1) g⟩, ⟨S128x64, k0_pay9 (X 2) g⟩, ⟨S128x64, k0_pay9 (X 3) g⟩]
      concatenates_S128x64_S128x64_S128x64_S128x64_S512x64_d0)
    (concatenate S512x1 0 [⟨S128x1, broadcast S128x1 (σ 0)⟩, ⟨S128x1, broadcast S128x1 (σ 1)⟩, ⟨S128x1, broadcast S128x1 (σ 2)⟩, ⟨S128x1, broadcast S128x1 (σ 3)⟩]
      concatenates_S128x1_S128x1_S128x1_S128x1_S512x1_d0) B0
    (extractStridedSlice S256x64 ![0, 0] (k0_pay3 vp vc) slices_S256x128_o0_0_S256x64)
def high : FVec Ideal S512x64 .f32 :=
  core (kmask p) (k0_pay22 (k0_pay21 (k0_pay2 kp kc)) w)
    (concatenate S512x64 0 [⟨S128x64, k0_pay9 (X 4) g⟩, ⟨S128x64, k0_pay9 (X 5) g⟩, ⟨S128x64, k0_pay9 (X 6) g⟩, ⟨S128x64, k0_pay9 (X 7) g⟩]
      concatenates_S128x64_S128x64_S128x64_S128x64_S512x64_d0)
    (concatenate S512x1 0 [⟨S128x1, broadcast S128x1 (σ 4)⟩, ⟨S128x1, broadcast S128x1 (σ 5)⟩, ⟨S128x1, broadcast S128x1 (σ 6)⟩, ⟨S128x1, broadcast S128x1 (σ 7)⟩]
      concatenates_S128x1_S128x1_S128x1_S128x1_S512x1_d0) B1
    (extractStridedSlice S256x64 ![0, 64] (k0_pay3 vp vc) slices_S256x128_o0_64_S256x64)

/-- What the body computes before the last norm: the eight heads side by side. -/
def all : FVec Ideal S128x512 .f32 :=
  k0_pay35 (k0_pay3 vp vc) (kmask p)
    (k0_pay17 (k0_pay3 vp vc) (kmask p) (k0_pay8 (k0_pay2 kp kc) w) (k0_pay9 (X 0) g) (k0_pay10 (σ 0)) (k0_pay11 (X 1) g) (k0_pay12 (σ 1))
      (k0_pay13 (X 2) g) (k0_pay14 (σ 2)) (k0_pay15 (X 3)) g (σ 3) B0)
    (k0_pay18 (k0_pay3 vp vc) (kmask p) (k0_pay8 (k0_pay2 kp kc) w) (k0_pay9 (X 0) g) (k0_pay10 (σ 0)) (k0_pay11 (X 1) g) (k0_pay12 (σ 1))
      (k0_pay13 (X 2) g) (k0_pay14 (σ 2)) (k0_pay15 (X 3)) g (σ 3) B0)
    (k0_pay19 (k0_pay3 vp vc) (kmask p) (k0_pay8 (k0_pay2 kp kc) w) (k0_pay9 (X 0) g) (k0_pay10 (σ 0)) (k0_pay11 (X 1) g) (k0_pay12 (σ 1))
      (k0_pay13 (X 2) g) (k0_pay14 (σ 2)) (k0_pay15 (X 3)) g (σ 3) B0)
    (k0_pay20 (k0_pay3 vp vc) (kmask p) (k0_pay8 (k0_pay2 kp kc) w) (k0_pay9 (X 0) g) (k0_pay10 (σ 0)) (k0_pay11 (X 1) g) (k0_pay12 (σ 1))
      (k0_pay13 (X 2) g) (k0_pay14 (σ 2)) (k0_pay15 (X 3)) g (σ 3) B0)
    (k0_pay22 (k0_pay21 (k0_pay2 kp kc)) w) (k0_pay23 (X 4) g) (k0_pay24 (σ 4))
    (k0_pay28 (k0_pay25 (X 5)) (k0_pay26 g) (k0_pay27 (X 5))) (k0_pay29 (σ 5)) (k0_pay30 (X 6) g) (k0_pay31 (σ 6))
    (k0_pay32 (X 7)) (k0_pay33 g) (k0_pay34 (X 7)) (σ 7) B1

/-- Head `h`'s 128 rows. -/
def heads8 (h : Fin 8) : FVec Ideal S128x64 .f32 :=
  match h with
  | 0 => extractStridedSlice S128x64 ![0, 0] (low X σ g w kp kc vp vc B0 p) slices_S512x64_o0_0_S128x64
  | 1 => extractStridedSlice S128x64 ![128, 0] (low X σ g w kp kc vp vc B0 p) slices_S512x64_o128_0_S128x64
  | 2 => extractStridedSlice S128x64 ![256, 0] (low X σ g w kp kc vp vc B0 p) slices_S512x64_o256_0_S128x64
  | 3 => extractStridedSlice S128x64 ![384, 0] (low X σ g w kp kc vp vc B0 p) slices_S512x64_o384_0_S128x64
  | 4 => extractStridedSlice S128x64 ![0, 0] (high X σ g w kp kc vp vc B1 p) slices_S512x64_o0_0_S128x64
  | 5 => extractStridedSlice S128x64 ![128, 0] (high X σ g w kp kc vp vc B1 p) slices_S512x64_o128_0_S128x64
  | 6 => extractStridedSlice S128x64 ![256, 0] (high X σ g w kp kc vp vc B1 p) slices_S512x64_o256_0_S128x64
  | 7 => extractStridedSlice S128x64 ![384, 0] (high X σ g w kp kc vp vc B1 p) slices_S512x64_o384_0_S128x64

theorem all_eq : all X σ g w kp kc vp vc B0 B1 p =
    concatenate S128x512 1 [⟨S128x64, heads8 X σ g w kp kc vp vc B0 B1 p 0⟩, ⟨S128x64, heads8 X σ g w kp kc vp vc B0 B1 p 1⟩, ⟨S128x64, heads8 X σ g w kp kc vp vc B0 B1 p 2⟩, ⟨S128x64, heads8 X σ g w kp kc vp vc B0 B1 p 3⟩, ⟨S128x64, heads8 X σ g w kp kc vp vc B0 B1 p 4⟩, ⟨S128x64, heads8 X σ g w kp kc vp vc B0 B1 p 5⟩, ⟨S128x64, heads8 X σ g w kp kc vp vc B0 B1 p 6⟩, ⟨S128x64, heads8 X σ g w kp kc vp vc B0 B1 p 7⟩]
      concatenates_S128x64_S128x64_S128x64_S128x64_S128x64_S128x64_S128x64_S128x64_S128x512_d1 := rfl

theorem slice_rows (o : Nat) (U : FVec Ideal S512x64 .f32) (h : S512x64.Slices ![o, 0] S128x64) (i : Fin 128) (d : Fin 64) (r : Fin 512)
    (hr : r.val = o + i.val) : extractStridedSlice S128x64 ![o, 0] U h (ix2 i d) = U (ix2 r d) :=
  extractStridedSlice_apply ![o, 0] U h (ix2 i d) _ (fun a => match a with | ⟨0, _⟩ => hr | ⟨1, _⟩ => (Nat.zero_add _).symm)

theorem heads8_low (f : Fin 4) (i : Fin 128) (d : Fin 64) :
    heads8 X σ g w kp kc vp vc B0 B1 p ⟨f.val, by omega⟩ (ix2 i d) = low X σ g w kp kc vp vc B0 p (ix2 ⟨f.val * 128 + i.val, by omega⟩ d) :=
  match f with
  | 0 => slice_rows 0 (low X σ g w kp kc vp vc B0 p) slices_S512x64_o0_0_S128x64 i d ⟨0 * 128 + i.val, by omega⟩ (by show 0 * 128 + i.val = 0 + i.val; omega)
  | 1 => slice_rows 128 (low X σ g w kp kc vp vc B0 p) slices_S512x64_o128_0_S128x64 i d ⟨1 * 128 + i.val, by omega⟩ (by show 1 * 128 + i.val = 128 + i.val; omega)
  | 2 => slice_rows 256 (low X σ g w kp kc vp vc B0 p) slices_S512x64_o256_0_S128x64 i d ⟨2 * 128 + i.val, by omega⟩ (by show 2 * 128 + i.val = 256 + i.val; omega)
  | 3 => slice_rows 384 (low X σ g w kp kc vp vc B0 p) slices_S512x64_o384_0_S128x64 i d ⟨3 * 128 + i.val, by omega⟩ (by show 3 * 128 + i.val = 384 + i.val; omega)

theorem heads8_high (f : Fin 4) (i : Fin 128) (d : Fin 64) :
    heads8 X σ g w kp kc vp vc B0 B1 p ⟨4 + f.val, by omega⟩ (ix2 i d) = high X σ g w kp kc vp vc B1 p (ix2 ⟨f.val * 128 + i.val, by omega⟩ d) :=
  match f with
  | 0 => slice_rows 0 (high X σ g w kp kc vp vc B1 p) slices_S512x64_o0_0_S128x64 i d ⟨0 * 128 + i.val, by omega⟩ (by show 0 * 128 + i.val = 0 + i.val; omega)
  | 1 => slice_rows 128 (high X σ g w kp kc vp vc B1 p) slices_S512x64_o128_0_S128x64 i d ⟨1 * 128 + i.val, by omega⟩ (by show 1 * 128 + i.val = 128 + i.val; omega)
  | 2 => slice_rows 256 (high X σ g w kp kc vp vc B1 p) slices_S512x64_o256_0_S128x64 i d ⟨2 * 128 + i.val, by omega⟩ (by show 2 * 128 + i.val = 256 + i.val; omega)
  | 3 => slice_rows 384 (high X σ g w kp kc vp vc B1 p) slices_S512x64_o384_0_S128x64 i d ⟨3 * 128 + i.val, by omega⟩ (by show 3 * 128 + i.val = 384 + i.val; omega)

theorem low_apply (n : Fin 16) (hn : (p 1).val = n.val) (f : Fin 4) (i : Fin 128) (d : Fin 64) :
    low X σ g w kp kc vp vc B0 p (ix2 ⟨f.val * 128 + i.val, by omega⟩ d)
      = att (score (ok n i) (nrm (fun y => X ⟨f.val, by omega⟩ (ix3 0 i y)) (fun y => g (ix2 0 y)))
          (fun j => nrm (fun y => two kp kc j ⟨y.val, by omega⟩) (fun y => w (ix2 0 y))) (fun j => B0 (ix3 f i j)))
        (σ ⟨f.val, by omega⟩) (fun j => two vp vc j ⟨d.val, by omega⟩) := by
  have e := core_head (kmask p) (k0_pay8 (k0_pay2 kp kc) w) B0 (ok n) (kmask_apply p n hn)
    (fun f => k0_pay9 (X ⟨f.val, by omega⟩) g) (fun f => broadcast S128x1 (σ ⟨f.val, by omega⟩))
    (extractStridedSlice S256x64 ![0, 0] (k0_pay3 vp vc) slices_S256x128_o0_0_S256x64) f i d
  refine Eq.trans ?_ (e.trans ?_)
  · rfl
  · have ev : ∀ j : Fin 256, extractStridedSlice S256x64 ![0, 0] (k0_pay3 vp vc) slices_S256x128_o0_0_S256x64 (ix2 j d) = two vp vc j ⟨d.val, by omega⟩ := fun j =>
      (extractStridedSlice_apply ![0, 0] (k0_pay3 vp vc) slices_S256x128_o0_0_S256x64 (ix2 j d) (ix2 j ⟨d.val, by omega⟩)
        (fun a => match a with | ⟨0, _⟩ => (Nat.zero_add _).symm | ⟨1, _⟩ => (Nat.zero_add _).symm)).trans (pay3_apply vp vc j _)
    simp only [ev, pay9_apply, pay8_apply, pay2_apply]
    rfl

theorem high_apply (n : Fin 16) (hn : (p 1).val = n.val) (f : Fin 4) (i : Fin 128) (d : Fin 64) :
    high X σ g w kp kc vp vc B1 p (ix2 ⟨f.val * 128 + i.val, by omega⟩ d)
      = att (score (ok n i) (nrm (fun y => X ⟨4 + f.val, by omega⟩ (ix3 0 i y)) (fun y => g (ix2 0 y)))
          (fun j => nrm (fun y => two kp kc j ⟨64 + y.val, by omega⟩) (fun y => w (ix2 0 y))) (fun j => B1 (ix3 f i j)))
        (σ ⟨4 + f.val, by omega⟩) (fun j => two vp vc j ⟨64 + d.val, by omega⟩) := by
  have e := core_head (kmask p) (k0_pay22 (k0_pay21 (k0_pay2 kp kc)) w) B1 (ok n) (kmask_apply p n hn)
    (fun f => k0_pay9 (X ⟨4 + f.val, by omega⟩) g) (fun f => broadcast S128x1 (σ ⟨4 + f.val, by omega⟩))
    (extractStridedSlice S256x64 ![0, 64] (k0_pay3 vp vc) slices_S256x128_o0_64_S256x64) f i d
  refine Eq.trans ?_ (e.trans ?_)
  · rfl
  · have ev : ∀ j : Fin 256, extractStridedSlice S256x64 ![0, 64] (k0_pay3 vp vc) slices_S256x128_o0_64_S256x64 (ix2 j d) = two vp vc j ⟨64 + d.val, by omega⟩ := fun j =>
      (extractStridedSlice_apply ![0, 64] (k0_pay3 vp vc) slices_S256x128_o0_64_S256x64 (ix2 j d) (ix2 j ⟨64 + d.val, by omega⟩)
        (fun a => match a with | ⟨0, _⟩ => (Nat.zero_add _).symm | ⟨1, _⟩ => rfl)).trans (pay3_apply vp vc j _)
    simp only [ev, pay9_apply, pay22_apply, pay2_apply]
    rfl

/-- Entry `d` of the `f`-th head of the first key head, in the body's array, and of the second's. -/
theorem all_low (n : Fin 16) (hn : (p 1).val = n.val) (f : Fin 4) (i : Fin 128) (d : Fin 64) :
    all X σ g w kp kc vp vc B0 B1 p (ix2 i ⟨f.val * 64 + d.val, by omega⟩)
      = att (score (ok n i) (nrm (fun y => X ⟨f.val, by omega⟩ (ix3 0 i y)) (fun y => g (ix2 0 y)))
          (fun j => nrm (fun y => two kp kc j ⟨y.val, by omega⟩) (fun y => w (ix2 0 y))) (fun j => B0 (ix3 f i j)))
        (σ ⟨f.val, by omega⟩) (fun j => two vp vc j ⟨d.val, by omega⟩) := by
  rw [all_eq]
  exact (cat8_apply (heads8 X σ g w kp kc vp vc B0 B1 p) ⟨f.val, by omega⟩ i d).trans
    ((heads8_low X σ g w kp kc vp vc B0 B1 p f i d).trans (low_apply X σ g w kp kc vp vc B0 p n hn f i d))

theorem all_high (n : Fin 16) (hn : (p 1).val = n.val) (f : Fin 4) (i : Fin 128) (d : Fin 64) :
    all X σ g w kp kc vp vc B0 B1 p (ix2 i ⟨(4 + f.val) * 64 + d.val, by omega⟩)
      = att (score (ok n i) (nrm (fun y => X ⟨4 + f.val, by omega⟩ (ix3 0 i y)) (fun y => g (ix2 0 y)))
          (fun j => nrm (fun y => two kp kc j ⟨64 + y.val, by omega⟩) (fun y => w (ix2 0 y))) (fun j => B1 (ix3 f i j)))
        (σ ⟨4 + f.val, by omega⟩) (fun j => two vp vc j ⟨64 + d.val, by omega⟩) := by
  rw [all_eq]
  exact (cat8_apply (heads8 X σ g w kp kc vp vc B0 B1 p) ⟨4 + f.val, by omega⟩ i d).trans
    ((heads8_high X σ g w kp kc vp vc B0 B1 p f i d).trans (high_apply X σ g w kp kc vp vc B1 p n hn f i d))

/-- What the body stores: those heads, divided by the row's root mean square and scaled. -/
theorem stored_apply (A : FVec Ideal S128x512 .f32) (s : Vec Ideal S1x512 .f32) (R : FVec Ideal S128x1 .f32)
    (hR : ∀ i : Fin 128, R (ix2 i 0) = ∑ x, A (ix2 i x) * A (ix2 i x)) (i : Fin 128) (c : Fin 512) :
    k0_pay1 A (k0_pay36 s) R (ix3 (0 : Fin 1) i c)
      = A (ix2 i c) * Ideal.rsqrt (Ideal.div (∑ x, A (ix2 i x) * A (ix2 i x)) (Ideal.ofBits FTy.f32 1140850688#32)
        + Ideal.ofBits FTy.f32 897988541#32) * s (ix2 0 c) := by
  rw [← hR i]
  pointwise! [k0_pay1, k0_pay36]

end Cert.SwaBody
-- ==== Proof.SwaOpen.lean ====
module

public import proofs.«01_k».proof.Defs
public import proofs.«01_k».proof.Proof.Gen.KernelIdeal.Value
public import proofs.«01_k».proof.Proof.SwaBody
public import Idealize.ShloMosaic.Lib.Pointwise
public import Idealize.ShloMosaic.Lib.Tactic

@[expose] public section

set_option maxRecDepth 65536

noncomputable section

namespace Cert.SwaOpen

open Idealize.ShloMosaic Idealize.ShloMosaic.TcCoe Idealize.SL.Sem
open Idealize.ShloMosaic.Pipeline (Dat)
open Cert.SwaBody Cert.SwaMask Cert.SwaMath Cert.SwaSpec
open Cert.KernelIdeal Cert.KernelIdeal.Gen

variable (m : (ℓ : Loc nD τ sig) → Buf (Elt Ideal) ℓ) (c : Dev nD)

/-! ## What one point of the grid stores -/

section
variable (X : Fin 8 → Vec Ideal S1x128x64 .f32) (σ : Fin 8 → Elt Ideal .f32) (g w : Vec Ideal S1x64 .f32)
  (kp kc vp vc : Vec Ideal S1x128x128 .f32) (B0 B1 : Vec Ideal S4x128x256 .f32) (p : grid0.Coords)

/-- The sums of the squares of the rows of those heads, as the body computes them. -/
def squares : FVec Ideal S128x1 .f32 :=
  k0_pay37 (k0_pay3 vp vc) (kmask p)
    (k0_pay17 (k0_pay3 vp vc) (kmask p) (k0_pay8 (k0_pay2 kp kc) w) (k0_pay9 (X 0) g) (k0_pay10 (σ 0)) (k0_pay11 (X 1) g) (k0_pay12 (σ 1))
      (k0_pay13 (X 2) g) (k0_pay14 (σ 2)) (k0_pay15 (X 3)) g (σ 3) B0)
    (k0_pay18 (k0_pay3 vp vc) (kmask p) (k0_pay8 (k0_pay2 kp kc) w) (k0_pay9 (X 0) g) (k0_pay10 (σ 0)) (k0_pay11 (X 1) g) (k0_pay12 (σ 1))
      (k0_pay13 (X 2) g) (k0_pay14 (σ 2)) (k0_pay15 (X 3)) g (σ 3) B0)
    (k0_pay19 (k0_pay3 vp vc) (kmask p) (k0_pay8 (k0_pay2 kp kc) w) (k0_pay9 (X 0) g) (k0_pay10 (σ 0)) (k0_pay11 (X 1) g) (k0_pay12 (σ 1))
      (k0_pay13 (X 2) g) (k0_pay14 (σ 2)) (k0_pay15 (X 3)) g (σ 3) B0)
    (k0_pay20 (k0_pay3 vp vc) (kmask p) (k0_pay8 (k0_pay2 kp kc) w) (k0_pay9 (X 0) g) (k0_pay10 (σ 0)) (k0_pay11 (X 1) g) (k0_pay12 (σ 1))
      (k0_pay13 (X 2) g) (k0_pay14 (σ 2)) (k0_pay15 (X 3)) g (σ 3) B0)
    (k0_pay22 (k0_pay21 (k0_pay2 kp kc)) w) (k0_pay23 (X 4) g) (k0_pay24 (σ 4))
    (k0_pay28 (k0_pay25 (X 5)) (k0_pay26 g) (k0_pay27 (X 5))) (k0_pay29 (σ 5)) (k0_pay30 (X 6) g) (k0_pay31 (σ 6))
    (k0_pay32 (X 7)) (k0_pay33 g) (k0_pay34 (X 7)) (σ 7) B1

theorem sums (A : FVec Ideal S128x512 .f32) (i : Fin 128) :
    shapeCast S128x1 (multiReduction .add [1] S128 (mulf A A) 0x00000000#32 reduces_S128x512_S128 (.inl rfl) rfl) shapeCasts_S128_S128x1 (ix2 i 0)
      = ∑ x, A (ix2 i x) * A (ix2 i x) := by
  pointwise!

theorem squares_apply (i : Fin 128) : squares X σ g w kp kc vp vc B0 B1 p (ix2 i 0)
    = ∑ x, all X σ g w kp kc vp vc B0 B1 p (ix2 i x) * all X σ g w kp kc vp vc B0 B1 p (ix2 i x) :=
  sums (all X σ g w kp kc vp vc B0 B1 p) i

end

variable (t : Fin cfg0.N)

/-- The queries of head `h` in point `t`'s block of rows, and the head's sink. -/
def qs (h : Fin 8) : Vec Ideal S1x128x64 .f32 :=
  match h with
  | 0 => View.ld (iblk m c 1 t) (Rect.unit ![0, 0, 0] ![1, 128, 64] inb_S1x128x512_S1x128x64_0_0_0)
  | 1 => View.ld (iblk m c 1 t) (Rect.unit ![0, 0, 64] ![1, 128, 64] inb_S1x128x512_S1x128x64_0_0_64)
  | 2 => View.ld (iblk m c 1 t) (Rect.unit ![0, 0, 128] ![1, 128, 64] inb_S1x128x512_S1x128x64_0_0_128)
  | 3 => View.ld (iblk m c 1 t) (Rect.unit ![0, 0, 192] ![1, 128, 64] inb_S1x128x512_S1x128x64_0_0_192)
  | 4 => View.ld (iblk m c 1 t) (Rect.unit ![0, 0, 256] ![1, 128, 64] inb_S1x128x512_S1x128x64_0_0_256)
  | 5 => View.ld (iblk m c 1 t) (Rect.unit ![0, 0, 320] ![1, 128, 64] inb_S1x128x512_S1x128x64_0_0_320)
  | 6 => View.ld (iblk m c 1 t) (Rect.unit ![0, 0, 384] ![1, 128, 64] inb_S1x128x512_S1x128x64_0_0_384)
  | 7 => View.ld (iblk m c 1 t) (Rect.unit ![0, 0, 448] ![1, 128, 64] inb_S1x128x512_S1x128x64_0_0_448)
def sinks (h : Fin 8) : Elt Ideal .f32 :=
  match h with
  | 0 => View.ld (iblk m c 0 t) (Rect.unit ![0] ![1] inb_S8_S1_0) (Shape.Idx.first (by show 0 < S1.numel; decide))
  | 1 => View.ld (iblk m c 0 t) (Rect.unit ![1] ![1] inb_S8_S1_1) (Shape.Idx.first (by show 0 < S1.numel; decide))
  | 2 => View.ld (iblk m c 0 t) (Rect.unit ![2] ![1] inb_S8_S1_2) (Shape.Idx.first (by show 0 < S1.numel; decide))
  | 3 => View.ld (iblk m c 0 t) (Rect.unit ![3] ![1] inb_S8_S1_3) (Shape.Idx.first (by show 0 < S1.numel; decide))
  | 4 => View.ld (iblk m c 0 t) (Rect.unit ![4] ![1] inb_S8_S1_4) (Shape.Idx.first (by show 0 < S1.numel; decide))
  | 5 => View.ld (iblk m c 0 t) (Rect.unit ![5] ![1] inb_S8_S1_5) (Shape.Idx.first (by show 0 < S1.numel; decide))
  | 6 => View.ld (iblk m c 0 t) (Rect.unit ![6] ![1] inb_S8_S1_6) (Shape.Idx.first (by show 0 < S1.numel; decide))
  | 7 => View.ld (iblk m c 0 t) (Rect.unit ![7] ![1] inb_S8_S1_7) (Shape.Idx.first (by show 0 < S1.numel; decide))

/-- The biases of the first four heads and of the last four. -/
def bias0 : Vec Ideal S4x128x256 .f32 := View.ld (iblk m c 6 t) (Rect.unit ![0, 0, 0] ![4, 128, 256] inb_S8x128x256_S4x128x256_0_0_0)
def bias1 : Vec Ideal S4x128x256 .f32 := View.ld (iblk m c 6 t) (Rect.unit ![4, 0, 0] ![4, 128, 256] inb_S8x128x256_S4x128x256_4_0_0)

theorem hz3 : (![0, 0, 0] : Fin 3 → Nat) = fun _ => 0 := funext fun a => by fin_cases a <;> rfl
theorem hz2 : (![0, 0] : Fin 2 → Nat) = fun _ => 0 := funext fun a => by fin_cases a <;> rfl

theorem whole128 (U : Vec Ideal S1x128x128 .f32) : View.ld U (Rect.unit ![0, 0, 0] ![1, 128, 128] inb_S1x128x128_S1x128x128_0_0_0) = U :=
  View.ld_unit_zero hz3 _ U
theorem whole64 (U : Vec Ideal S1x64 .f32) : View.ld U (Rect.unit ![0, 0] ![1, 64] inb_S1x64_S1x64_0_0) = U :=
  View.ld_unit_zero hz2 _ U
theorem whole512 (U : Vec Ideal S1x512 .f32) : View.ld U (Rect.unit ![0, 0] ![1, 512] inb_S1x512_S1x512_0_0) = U :=
  View.ld_unit_zero hz2 _ U

/-- The heads at point `t`, and the sums of their squares. -/
abbrev heads : FVec Ideal S128x512 .f32 :=
  all (qs m c t) (sinks m c t) (iblk m c 7 t) (iblk m c 8 t) (iblk m c 3 t) (iblk m c 2 t) (iblk m c 5 t) (iblk m c 4 t)
    (bias0 m c t) (bias1 m c t) (grid0.coords t)
abbrev headSquares : FVec Ideal S128x1 .f32 :=
  squares (qs m c t) (sinks m c t) (iblk m c 7 t) (iblk m c 8 t) (iblk m c 3 t) (iblk m c 2 t) (iblk m c 5 t) (iblk m c 4 t)
    (bias0 m c t) (bias1 m c t) (grid0.coords t)

/-- Point `t` stores the heads, divided by the row's root mean square and scaled. -/
theorem opened : outsAt0 m c t = k0_pay1 (heads m c t) (k0_pay36 (iblk m c 9 t)) (headSquares m c t) := by
  unfold outsAt0; unfold out0_A_10
  rw [View.read_writes_eq_canon _ _ _ (cover0_A_10 c (grid0.coords t) (ms0_0 t) (hs0_0 t) (ms0_1 t) (hs0_1 t) (ms0_2 t) (hs0_2 t)
    (ms0_3 t) (hs0_3 t) (ms0_4 t) (hs0_4 t) (ms0_5 t) (hs0_5 t) (ms0_6 t) (hs0_6 t) (ms0_7 t) (hs0_7 t) (ms0_8 t) (hs0_8 t)
    (ms0_9 t) (hs0_9 t) (ms0_10 t) (hs0_10 t) _ _ _ _ _ _ _ _ _ _)]
  unfold kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread]
  rw [View.canon_unit_zero hz3]
  rw [whole128, whole128, whole128, whole128, whole64, whole64, whole512]
  rfl

end Cert.SwaOpen
-- ==== Proof.SwaBlk.lean ====
module

public import proofs.«01_k».proof.Defs
public import proofs.«01_k».proof.Proof.Gen.KernelIdeal.Value
public import proofs.«01_k».proof.Proof.SwaBody
public import Idealize.ShloMosaic.Lib.Pointwise
public import Idealize.ShloMosaic.Lib.Tactic

@[expose] public section

set_option maxRecDepth 65536

noncomputable section

namespace Cert.SwaBlk

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The arguments as launched on core `c`: queries, keys, values, biases, the two scales, the sinks and the output's scale. -/
abbrev argQ : Vec Ideal S16384x512 .f32 := m ((c : Thread nD τ).loc main_arg0)
abbrev argK : Vec Ideal S16384x128 .f32 := m ((c : Thread nD τ).loc main_arg1)
abbrev argV : Vec Ideal S16384x128 .f32 := m ((c : Thread nD τ).loc main_arg2)
abbrev argBias : Vec Ideal S8x128x256 .f32 := m ((c : Thread nD τ).loc main_arg3)
abbrev argQg : Vec Ideal S64 .f32 := m ((c : Thread nD τ).loc main_arg4)
abbrev argKg : Vec Ideal S64 .f32 := m ((c : Thread nD τ).loc main_arg5)
abbrev argSink : Vec Ideal S8 .f32 := m ((c : Thread nD τ).loc main_arg6)
abbrev argOg : Vec Ideal S512 .f32 := m ((c : Thread nD τ).loc main_arg7)

/-- The kernel is given the rows a sequence at a time, and the scales as one row. -/
theorem V_main_v0 : V m c main_v0 = shapeCast S8x2048x128 (argK m c) shapeCasts_S16384x128_S8x2048x128 := by
  dsimp only [V, hostOps0]; after_results; rfl
theorem V_main_v1 : V m c main_v1 = shapeCast S8x2048x128 (argV m c) shapeCasts_S16384x128_S8x2048x128 := by
  dsimp only [V, hostOps0]; after_results; rfl
theorem V_main_v2 : V m c main_v2 = shapeCast S8x2048x512 (argQ m c) shapeCasts_S16384x512_S8x2048x512 := by
  dsimp only [V, hostOps0]; after_results; rfl
theorem V_main_v3 : V m c main_v3 = shapeCast S1x64 (argQg m c) shapeCasts_S64_S1x64 := by
  dsimp only [V, hostOps0]; after_results; rfl
theorem V_main_v4 : V m c main_v4 = shapeCast S1x64 (argKg m c) shapeCasts_S64_S1x64 := by
  dsimp only [V, hostOps0]; after_results; rfl
theorem V_main_v5 : V m c main_v5 = shapeCast S1x512 (argOg m c) shapeCasts_S512_S1x512 := by
  dsimp only [V, hostOps0]; after_results; rfl

/-- Point `t` is block `t mod 16` of sequence `t / 16`. -/
theorem t_lt (t : Fin cfg0.N) : t.val < 128 := lt_of_lt_of_eq t.isLt N_0
def tb (t : Fin cfg0.N) : Fin 8 := ⟨t.val / 16, by have := t_lt t; omega⟩
def tn (t : Fin cfg0.N) : Fin 16 := ⟨t.val % 16, by omega⟩

theorem coord1 : ∀ t : Fin grid0.N, (grid0.coords t 1).val = t.val % 16 := by decide +kernel

/-- The blocks that point `t` is given. -/
theorem idx0 : ∀ t : Fin grid0.N, win0_0.index t 0 = 0 := by decide +kernel
theorem idx1 : ∀ t : Fin grid0.N, win0_1.index t 0 = t.val / 16 ∧ win0_1.index t 1 = t.val % 16 ∧ win0_1.index t 2 = 0 := by decide +kernel
theorem idx2 : ∀ t : Fin grid0.N, win0_2.index t 0 = t.val / 16 ∧ win0_2.index t 1 = t.val % 16 ∧ win0_2.index t 2 = 0 := by decide +kernel
theorem idx3 : ∀ t : Fin grid0.N, win0_3.index t 0 = t.val / 16 ∧ win0_3.index t 1 = t.val % 16 - 1 ∧ win0_3.index t 2 = 0 := by decide +kernel
theorem idx4 : ∀ t : Fin grid0.N, win0_4.index t 0 = t.val / 16 ∧ win0_4.index t 1 = t.val % 16 ∧ win0_4.index t 2 = 0 := by decide +kernel
theorem idx5 : ∀ t : Fin grid0.N, win0_5.index t 0 = t.val / 16 ∧ win0_5.index t 1 = t.val % 16 - 1 ∧ win0_5.index t 2 = 0 := by decide +kernel
theorem idx6 : ∀ t : Fin grid0.N, win0_6.index t 0 = 0 ∧ win0_6.index t 1 = 0 ∧ win0_6.index t 2 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel
theorem idx10 : ∀ t : Fin grid0.N, win0_10.index t 0 = t.val / 16 ∧ win0_10.index t 1 = t.val % 16 ∧ win0_10.index t 2 = 0 := by decide +kernel

/-- A row of a sequence, of the rows one sequence after another. -/
def row (b : Fin 8) (s : Fin 2048) : Fin 16384 := ⟨b.val * 2048 + s.val, by omega⟩
theorem read128 (U : Vec Ideal S16384x128 .f32) (b : Fin 8) (s : Fin 2048) (x : Fin 128) :
    shapeCast S8x2048x128 U shapeCasts_S16384x128_S8x2048x128 (ix3 b s x) = U (ix2 (row b s) x) := by
  pointwise [row]
theorem read512 (U : Vec Ideal S16384x512 .f32) (b : Fin 8) (s : Fin 2048) (x : Fin 512) :
    shapeCast S8x2048x512 U shapeCasts_S16384x512_S8x2048x512 (ix3 b s x) = U (ix2 (row b s) x) := by
  pointwise [row]

variable (t : Fin cfg0.N)

/-- Row `r` of the block, and of the block before it (of the block itself where it is the sequence's first). -/
def cur (r : Fin 128) : Fin 2048 := ⟨t.val % 16 * 128 + r.val, by omega⟩
def prev (r : Fin 128) : Fin 2048 := ⟨(t.val % 16 - 1) * 128 + r.val, by omega⟩

theorem blk1 (r : Fin 128) (x : Fin 512) : iblk m c 1 t (ix3 (0 : Fin 1) r x : S1x128x512.Idx) = argQ m c (ix2 (row (tb t) (cur t r)) x) := by
  show V m c main_v2 ((win0_1.rect t).idx (ix3 (0 : Fin 1) r x)) = _
  rw [V_main_v2]
  have e : (win0_1.rect t).idx (ix3 (0 : Fin 1) r x) = (ix3 (tb t) (cur t r) x : S8x2048x512.Idx) := funext fun a => Fin.ext (by
    match a with
    | ⟨0, _⟩ => show win0_1.index t 0 * 1 + 1 * 0 = t.val / 16
                rw [(idx1 t).1]; omega
    | ⟨1, _⟩ => show win0_1.index t 1 * 128 + 1 * r.val = t.val % 16 * 128 + r.val
                rw [(idx1 t).2.1]; omega
    | ⟨2, _⟩ => show win0_1.index t 2 * 512 + 1 * x.val = x.val
                rw [(idx1 t).2.2]; omega)
  rw [e]
  exact read512 _ _ _ _

theorem blk2 (r : Fin 128) (x : Fin 128) : iblk m c 2 t (ix3 (0 : Fin 1) r x : S1x128x128.Idx) = argK m c (ix2 (row (tb t) (cur t r)) x) := by
  show V m c main_v0 ((win0_2.rect t).idx (ix3 (0 : Fin 1) r x)) = _
  rw [V_main_v0]
  have e : (win0_2.rect t).idx (ix3 (0 : Fin 1) r x) = (ix3 (tb t) (cur t r) x : S8x2048x128.Idx) := funext fun a => Fin.ext (by
    match a with
    | ⟨0, _⟩ => show win0_2.index t 0 * 1 + 1 * 0 = t.val / 16
                rw [(idx2 t).1]; omega
    | ⟨1, _⟩ => show win0_2.index t 1 * 128 + 1 * r.val = t.val % 16 * 128 + r.val
                rw [(idx2 t).2.1]; omega
    | ⟨2, _⟩ => show win0_2.index t 2 * 128 + 1 * x.val = x.val
                rw [(idx2 t).2.2]; omega)
  rw [e]
  exact read128 _ _ _ _

theorem blk3 (r : Fin 128) (x : Fin 128) : iblk m c 3 t (ix3 (0 : Fin 1) r x : S1x128x128.Idx) = argK m c (ix2 (row (tb t) (prev t r)) x) := by
  show V m c main_v0 ((win0_3.rect t).idx (ix3 (0 : Fin 1) r x)) = _
  rw [V_main_v0]
  have e : (win0_3.rect t).idx (ix3 (0 : Fin 1) r x) = (ix3 (tb t) (prev t r) x : S8x2048x128.Idx) := funext fun a => Fin.ext (by
    match a with
    | ⟨0, _⟩ => show win0_3.index t 0 * 1 + 1 * 0 = t.val / 16
                rw [(idx3 t).1]; omega
    | ⟨1, _⟩ => show win0_3.index t 1 * 128 + 1 * r.val = (t.val % 16 - 1) * 128 + r.val
                rw [(idx3 t).2.1]; omega
    | ⟨2, _⟩ => show win0_3.index t 2 * 128 + 1 * x.val = x.val
                rw [(idx3 t).2.2]; omega)
  rw [e]
  exact read128 _ _ _ _

theorem blk4 (r : Fin 128) (x : Fin 128) : iblk m c 4 t (ix3 (0 : Fin 1) r x : S1x128x128.Idx) = argV m c (ix2 (row (tb t) (cur t r)) x) := by
  show V m c main_v1 ((win0_4.rect t).idx (ix3 (0 : Fin 1) r x)) = _
  rw [V_main_v1]
  have e : (win0_4.rect t).idx (ix3 (0 : Fin 1) r x) = (ix3 (tb t) (cur t r) x : S8x2048x128.Idx) := funext fun a => Fin.ext (by
    match a with
    | ⟨0, _⟩ => show win0_4.index t 0 * 1 + 1 * 0 = t.val / 16
                rw [(idx4 t).1]; omega
    | ⟨1, _⟩ => show win0_4.index t 1 * 128 + 1 * r.val = t.val % 16 * 128 + r.val
                rw [(idx4 t).2.1]; omega
    | ⟨2, _⟩ => show win0_4.index t 2 * 128 + 1 * x.val = x.val
                rw [(idx4 t).2.2]; omega)
  rw [e]
  exact read128 _ _ _ _

theorem blk5 (r : Fin 128) (x : Fin 128) : iblk m c 5 t (ix3 (0 : Fin 1) r x : S1x128x128.Idx) = argV m c (ix2 (row (tb t) (prev t r)) x) := by
  show V m c main_v1 ((win0_5.rect t).idx (ix3 (0 : Fin 1) r x)) = _
  rw [V_main_v1]
  have e : (win0_5.rect t).idx (ix3 (0 : Fin 1) r x) = (ix3 (tb t) (prev t r) x : S8x2048x128.Idx) := funext fun a => Fin.ext (by
    match a with
    | ⟨0, _⟩ => show win0_5.index t 0 * 1 + 1 * 0 = t.val / 16
                rw [(idx5 t).1]; omega
    | ⟨1, _⟩ => show win0_5.index t 1 * 128 + 1 * r.val = (t.val % 16 - 1) * 128 + r.val
                rw [(idx5 t).2.1]; omega
    | ⟨2, _⟩ => show win0_5.index t 2 * 128 + 1 * x.val = x.val
                rw [(idx5 t).2.2]; omega)
  rw [e]
  exact read128 _ _ _ _

theorem blk0 (h : Fin 8) : iblk m c 0 t (ix1 h : S8.Idx) = argSink m c (ix1 h) := by
  show V m c main_arg6 ((win0_0.rect t).idx (ix1 h)) = _
  rw [V_main_arg6]
  refine congrArg (argSink m c) (funext fun a => Fin.ext ?_)
  match a with
  | ⟨0, _⟩ => show win0_0.index t 0 * 8 + 1 * h.val = h.val
              rw [idx0 t]; omega

theorem blk6 (h : Fin 8) (i : Fin 128) (j : Fin 256) : iblk m c 6 t (ix3 h i j : S8x128x256.Idx) = argBias m c (ix3 h i j) := by
  show V m c main_arg3 ((win0_6.rect t).idx (ix3 h i j)) = _
  rw [V_main_arg3]
  refine congrArg (argBias m c) (funext fun a => Fin.ext ?_)
  match a with
  | ⟨0, _⟩ => show win0_6.index t 0 * 8 + 1 * h.val = h.val
              rw [(idx6 t).1]; omega
  | ⟨1, _⟩ => show win0_6.index t 1 * 128 + 1 * i.val = i.val
              rw [(idx6 t).2.1]; omega
  | ⟨2, _⟩ => show win0_6.index t 2 * 256 + 1 * j.val = j.val
              rw [(idx6 t).2.2]; omega

theorem blk7 (x : Fin 64) : iblk m c 7 t (ix2 (0 : Fin 1) x : S1x64.Idx) = argQg m c (ix1 x) := by
  show V m c main_v3 ((win0_7.rect t).idx (ix2 (0 : Fin 1) x)) = _
  rw [V_main_v3]
  have e : (win0_7.rect t).idx (ix2 (0 : Fin 1) x) = (ix2 (0 : Fin 1) x : S1x64.Idx) := funext fun a => Fin.ext (by
    match a with
    | ⟨0, _⟩ => show win0_7.index t 0 * 1 + 1 * 0 = 0
                rw [(idx7 t).1]
    | ⟨1, _⟩ => show win0_7.index t 1 * 64 + 1 * x.val = x.val
                rw [(idx7 t).2]; omega)
  rw [e]
  generalize argQg m c = U
  pointwise

theorem blk8 (x : Fin 64) : iblk m c 8 t (ix2 (0 : Fin 1) x : S1x64.Idx) = argKg m c (ix1 x) := by
  show V m c main_v4 ((win0_8.rect t).idx (ix2 (0 : Fin 1) x)) = _
  rw [V_main_v4]
  have e : (win0_8.rect t).idx (ix2 (0 : Fin 1) x) = (ix2 (0 : Fin 1) x : S1x64.Idx) := funext fun a => Fin.ext (by
    match a with
    | ⟨0, _⟩ => show win0_8.index t 0 * 1 + 1 * 0 = 0
                rw [(idx8 t).1]
    | ⟨1, _⟩ => show win0_8.index t 1 * 64 + 1 * x.val = x.val
                rw [(idx8 t).2]; omega)
  rw [e]
  generalize argKg m c = U
  pointwise

theorem blk9 (x : Fin 512) : iblk m c 9 t (ix2 (0 : Fin 1) x : S1x512.Idx) = argOg m c (ix1 x) := by
  show V m c main_v5 ((win0_9.rect t).idx (ix2 (0 : Fin 1) x)) = _
  rw [V_main_v5]
  have e : (win0_9.rect t).idx (ix2 (0 : Fin 1) x) = (ix2 (0 : Fin 1) x : S1x512.Idx) := funext fun a => Fin.ext (by
    match a with
    | ⟨0, _⟩ => show win0_9.index t 0 * 1 + 1 * 0 = 0
                rw [(idx9 t).1]
    | ⟨1, _⟩ => show win0_9.index t 1 * 512 + 1 * x.val = x.val
                rw [(idx9 t).2]; omega)
  rw [e]
  generalize argOg m c = U
  pointwise

end Cert.SwaBlk
-- ==== Proof.SwaKern.lean ====
module

public import proofs.«01_k».proof.Defs
public import proofs.«01_k».proof.Proof.SwaOpen
public import proofs.«01_k».proof.Proof.SwaBlk
public import Idealize.ShloMosaic.Lib.Pipeline.ValueKit.Tiles

@[expose] public section

set_option maxRecDepth 65536

noncomputable section

namespace Cert.SwaKern

open Idealize.ShloMosaic Idealize.ShloMosaic.TcCoe Idealize.SL.Sem
open Idealize.ShloMosaic.Pipeline (Dat)
open Cert.SwaOpen Cert.SwaBlk Cert.SwaBody Cert.SwaMath
open Cert.SwaSpec (ok qrow krow qcol kcol hd qn kn scores head)
open Cert.KernelIdeal Cert.KernelIdeal.Gen

variable (m : (ℓ : Loc nD τ sig) → Buf (Elt Ideal) ℓ) (c : Dev nD) (t : Fin cfg0.N)

/-! ## What the body loads, from the arguments -/

theorem qs_gen (o : Nat) (inb : ∀ a, (![0, 0, o] : Fin 3 → Nat) a + S1x128x64.size a ≤ S1x128x512.size a) (h : Fin 8) (ho : o = h.val * 64)
    (i : Fin 128) (y : Fin 64) :
    View.ld (iblk m c 1 t) (Rect.unit ![0, 0, o] ![1, 128, 64] inb) (ix3 (0 : Fin 1) i y)
      = argQ m c (ix2 (qrow (tb t) (tn t) i) (qcol h y)) := by
  subst ho
  refine Eq.trans ?_ (blk1 m c t i ⟨h.val * 64 + y.val, by omega⟩)
  refine View.ld_unit_apply_of _ _ _ _ _ _ (fun a => ?_)
  match a with
  | ⟨0, _⟩ => rfl
  | ⟨1, _⟩ => exact (Nat.zero_add _).symm
  | ⟨2, _⟩ => rfl

theorem qs_apply (h : Fin 8) (i : Fin 128) (y : Fin 64) :
    qs m c t h (ix3 (0 : Fin 1) i y) = argQ m c (ix2 (qrow (tb t) (tn t) i) (qcol h y)) :=
  match h with
  | 0 => qs_gen m c t 0 inb_S1x128x512_S1x128x64_0_0_0 0 rfl i y
  | 1 => qs_gen m c t 64 inb_S1x128x512_S1x128x64_0_0_64 1 rfl i y
  | 2 => qs_gen m c t 128 inb_S1x128x512_S1x128x64_0_0_128 2 rfl i y
  | 3 => qs_gen m c t 192 inb_S1x128x512_S1x128x64_0_0_192 3 rfl i y
  | 4 => qs_gen m c t 256 inb_S1x128x512_S1x128x64_0_0_256 4 rfl i y
  | 5 => qs_gen m c t 320 inb_S1x128x512_S1x128x64_0_0_320 5 rfl i y
  | 6 => qs_gen m c t 384 inb_S1x128x512_S1x128x64_0_0_384 6 rfl i y
  | 7 => qs_gen m c t 448 inb_S1x128x512_S1x128x64_0_0_448 7 rfl i y

theorem sinks_gen (o : Nat) (inb : ∀ a, (![o] : Fin 1 → Nat) a + S1.size a ≤ S8.size a) (hu : 0 < S1.numel) (h : Fin 8) (ho : o = h.val) :
    View.ld (iblk m c 0 t) (Rect.unit ![o] ![1] inb) (Shape.Idx.first hu) = argSink m c (ix1 h) := by
  subst ho
  refine Eq.trans ?_ (blk0 m c t h)
  refine View.ld_unit_apply_of _ _ _ _ _ _ (fun a => ?_)
  match a with
  | ⟨0, _⟩ => rfl

theorem sinks_apply (h : Fin 8) : sinks m c t h = argSink m c (ix1 h) :=
  match h with
  | 0 => sinks_gen m c t 0 inb_S8_S1_0 _ 0 rfl
  | 1 => sinks_gen m c t 1 inb_S8_S1_1 _ 1 rfl
  | 2 => sinks_gen m c t 2 inb_S8_S1_2 _ 2 rfl
  | 3 => sinks_gen m c t 3 inb_S8_S1_3 _ 3 rfl
  | 4 => sinks_gen m c t 4 inb_S8_S1_4 _ 4 rfl
  | 5 => sinks_gen m c t 5 inb_S8_S1_5 _ 5 rfl
  | 6 => sinks_gen m c t 6 inb_S8_S1_6 _ 6 rfl
  | 7 => sinks_gen m c t 7 inb_S8_S1_7 _ 7 rfl

theorem bias0_apply (f : Fin 4) (i : Fin 128) (j : Fin 256) : bias0 m c t (ix3 f i j) = argBias m c (ix3 ⟨f.val, by omega⟩ i j) := by
  refine Eq.trans ?_ (blk6 m c t ⟨f.val, by omega⟩ i j)
  refine View.ld_unit_apply_of _ _ _ _ _ _ (fun a => ?_)
  match a with
  | ⟨0, _⟩ => exact (Nat.zero_add _).symm
  | ⟨1, _⟩ => exact (Nat.zero_add _).symm
  | ⟨2, _⟩ => exact (Nat.zero_add _).symm

theorem bias1_apply (f : Fin 4) (i : Fin 128) (j : Fin 256) : bias1 m c t (ix3 f i j) = argBias m c (ix3 ⟨4 + f.val, by omega⟩ i j) := by
  refine Eq.trans ?_ (blk6 m c t ⟨4 + f.val, by omega⟩ i j)
  refine View.ld_unit_apply_of _ _ _ _ _ _ (fun a => ?_)
  match a with
  | ⟨0, _⟩ => rfl
  | ⟨1, _⟩ => exact (Nat.zero_add _).symm
  | ⟨2, _⟩ => exact (Nat.zero_add _).symm

/-- The two blocks of keys beside one another are the keys of the window, and so for the values. -/
theorem two_keys (j : Fin 256) (x : Fin 128) (h : 128 ≤ (tn t).val * 128 + j.val) :
    two (iblk m c 3 t) (iblk m c 2 t) j x = argK m c (ix2 (krow (tb t) (tn t) j) x) := by
  have h' : 128 ≤ t.val % 16 * 128 + j.val := h
  unfold two
  split
  · rename_i hj
    refine (blk3 m c t ⟨j.val, hj⟩ x).trans (congrArg (fun z => argK m c (ix2 z x)) (Fin.ext ?_))
    show t.val / 16 * 2048 + ((t.val % 16 - 1) * 128 + j.val) = t.val / 16 * 2048 + (t.val % 16 * 128 + j.val - 128)
    omega
  · rename_i hj
    refine (blk2 m c t ⟨j.val - 128, by omega⟩ x).trans (congrArg (fun z => argK m c (ix2 z x)) (Fin.ext ?_))
    show t.val / 16 * 2048 + (t.val % 16 * 128 + (j.val - 128)) = t.val / 16 * 2048 + (t.val % 16 * 128 + j.val - 128)
    omega

theorem two_values (j : Fin 256) (x : Fin 128) (h : 128 ≤ (tn t).val * 128 + j.val) :
    two (iblk m c 5 t) (iblk m c 4 t) j x = argV m c (ix2 (krow (tb t) (tn t) j) x) := by
  have h' : 128 ≤ t.val % 16 * 128 + j.val := h
  unfold two
  split
  · rename_i hj
    refine (blk5 m c t ⟨j.val, hj⟩ x).trans (congrArg (fun z => argV m c (ix2 z x)) (Fin.ext ?_))
    show t.val / 16 * 2048 + ((t.val % 16 - 1) * 128 + j.val) = t.val / 16 * 2048 + (t.val % 16 * 128 + j.val - 128)
    omega
  · rename_i hj
    refine (blk4 m c t ⟨j.val - 128, by omega⟩ x).trans (congrArg (fun z => argV m c (ix2 z x)) (Fin.ext ?_))
    show t.val / 16 * 2048 + (t.val % 16 * 128 + (j.val - 128)) = t.val / 16 * 2048 + (t.val % 16 * 128 + j.val - 128)
    omega

/-- A key in the window does not lie before the sequence's start. -/
theorem ok_pos {n : Fin 16} {i : Fin 128} {j : Fin 256} (h : ok n i j = true) : 128 ≤ n.val * 128 + j.val := by
  unfold ok at h
  have := of_decide_eq_true h
  omega

theorem of_score {n : Fin 16} {i : Fin 128} {q : Fin 64 → EReal} {k : Fin 256 → Fin 64 → EReal} {b : Fin 256 → EReal} {j : Fin 256}
    (h : score (ok n i) q k b j ≠ ⊥) : ok n i j = true := by
  by_contra hn
  exact h (if_neg hn)

/-! ## What the body computes, from the arguments -/

/-- The heads of key head 0, entry by entry. -/
theorem heads_low (f : Fin 4) (i : Fin 128) (d : Fin 64) :
    heads m c t (ix2 i ⟨f.val * 64 + d.val, by omega⟩)
      = head (argQ m c) (argK m c) (argV m c) (argBias m c) (argQg m c) (argKg m c) (argSink m c) (tb t) (tn t) 0 f i d := by
  have e := all_low (qs m c t) (sinks m c t) (iblk m c 7 t) (iblk m c 8 t) (iblk m c 3 t) (iblk m c 2 t) (iblk m c 5 t) (iblk m c 4 t)
    (bias0 m c t) (bias1 m c t) (grid0.coords t) (tn t) (coord1 t) f i d
  have hx : (⟨f.val, by omega⟩ : Fin 8) = hd 0 f := Fin.ext (by show f.val = 0 * 4 + f.val; omega)
  have hX : (fun y => qs m c t ⟨f.val, by omega⟩ (ix3 0 i y)) = fun y => argQ m c (ix2 (qrow (tb t) (tn t) i) (qcol (hd 0 f) y)) :=
    funext fun y => by rw [qs_apply, hx]
  have hG : (fun y => iblk m c 7 t (ix2 0 y)) = fun y => argQg m c (ix1 y) := funext fun y => blk7 m c t y
  have hB : (fun j => bias0 m c t (ix3 f i j)) = fun j => argBias m c (ix3 (hd 0 f) i j) := funext fun j => by rw [bias0_apply, hx]
  have hS : sinks m c t ⟨f.val, by omega⟩ = argSink m c (ix1 (hd 0 f)) := by rw [sinks_apply, hx]
  refine e.trans ?_
  rw [hX, hG, hB, hS]
  unfold head scores qn
  refine (congrArg (fun s => att s _ _) (score_congr (fun j hj => ?_))).trans (att_congr (fun j hj => ?_))
  · unfold kn
    refine congrArg₂ nrm (funext fun y => ?_) (funext fun y => blk8 m c t y)
    exact (two_keys m c t j _ (ok_pos hj)).trans (congrArg (fun z => argK m c (ix2 (krow (tb t) (tn t) j) z)) (Fin.ext (by show y.val = 0 * 64 + y.val; omega)))
  · exact (two_values m c t j _ (ok_pos (of_score hj))).trans (congrArg (fun z => argV m c (ix2 (krow (tb t) (tn t) j) z)) (Fin.ext (by show d.val = 0 * 64 + d.val; omega)))

/-- The heads of key head 1, entry by entry. -/
theorem heads_high (f : Fin 4) (i : Fin 128) (d : Fin 64) :
    heads m c t (ix2 i ⟨(4 + f.val) * 64 + d.val, by omega⟩)
      = head (argQ m c) (argK m c) (argV m c) (argBias m c) (argQg m c) (argKg m c) (argSink m c) (tb t) (tn t) 1 f i d := by
  have e := all_high (qs m c t) (sinks m c t) (iblk m c 7 t) (iblk m c 8 t) (iblk m c 3 t) (iblk m c 2 t) (iblk m c 5 t) (iblk m c 4 t)
    (bias0 m c t) (bias1 m c t) (grid0.coords t) (tn t) (coord1 t) f i d
  have hx : (⟨4 + f.val, by omega⟩ : Fin 8) = hd 1 f := Fin.ext (by show 4 + f.val = 1 * 4 + f.val; omega)
  have hX : (fun y => qs m c t ⟨4 + f.val, by omega⟩ (ix3 0 i y)) = fun y => argQ m c (ix2 (qrow (tb t) (tn t) i) (qcol (hd 1 f) y)) :=
    funext fun y => by rw [qs_apply, hx]
  have hG : (fun y => iblk m c 7 t (ix2 0 y)) = fun y => argQg m c (ix1 y) := funext fun y => blk7 m c t y
  have hB : (fun j => bias1 m c t (ix3 f i j)) = fun j => argBias m c (ix3 (hd 1 f) i j) := funext fun j => by rw [bias1_apply, hx]
  have hS : sinks m c t ⟨4 + f.val, by omega⟩ = argSink m c (ix1 (hd 1 f)) := by rw [sinks_apply, hx]
  refine e.trans ?_
  rw [hX, hG, hB, hS]
  unfold head scores qn
  refine (congrArg (fun s => att s _ _) (score_congr (fun j hj => ?_))).trans (att_congr (fun j hj => ?_))
  · unfold kn
    refine congrArg₂ nrm (funext fun y => ?_) (funext fun y => blk8 m c t y)
    exact (two_keys m c t j _ (ok_pos hj)).trans (congrArg (fun z => argK m c (ix2 (krow (tb t) (tn t) j) z)) (Fin.ext (by show 64 + y.val = 1 * 64 + y.val; omega)))
  · exact (two_values m c t j _ (ok_pos (of_score hj))).trans (congrArg (fun z => argV m c (ix2 (krow (tb t) (tn t) j) z)) (Fin.ext (by show 64 + d.val = 1 * 64 + d.val; omega)))

/-- Row `i` of the heads at point `t` is a row of the heads of the whole arrays. -/
theorem heads_apply (i : Fin 128) (x : Fin 512) :
    heads m c t (ix2 i x) = Cert.SwaSpec.heads (argQ m c) (argK m c) (argV m c) (argBias m c) (argQg m c) (argKg m c) (argSink m c) (tb t) (cur t i) x := by
  have h1 : (⟨(cur t i).val / 128, by have := (cur t i).isLt; omega⟩ : Fin 16) = tn t :=
    Fin.ext (by show (t.val % 16 * 128 + i.val) / 128 = t.val % 16; omega)
  have h2 : (⟨(cur t i).val % 128, by omega⟩ : Fin 128) = i :=
    Fin.ext (by show (t.val % 16 * 128 + i.val) % 128 = i.val; omega)
  unfold Cert.SwaSpec.heads
  rw [h1, h2]
  by_cases hx : x.val < 256
  · have e := heads_low m c t ⟨x.val / 64, by omega⟩ i ⟨x.val % 64, by omega⟩
    have h3 : (⟨x.val / 256, by omega⟩ : Fin 2) = 0 := Fin.ext (by show x.val / 256 = 0; omega)
    have h4 : (⟨x.val / 64 % 4, by omega⟩ : Fin 4) = ⟨x.val / 64, by omega⟩ := Fin.ext (by show x.val / 64 % 4 = x.val / 64; omega)
    rw [h3, h4, ← e]
    exact congrArg (fun z => heads m c t (ix2 i z)) (Fin.ext (by show x.val = x.val / 64 * 64 + x.val % 64; omega))
  · have e := heads_high m c t ⟨x.val / 64 - 4, by omega⟩ i ⟨x.val % 64, by omega⟩
    have h3 : (⟨x.val / 256, by omega⟩ : Fin 2) = 1 := Fin.ext (by show x.val / 256 = 1; omega)
    have h4 : (⟨x.val / 64 % 4, by omega⟩ : Fin 4) = ⟨x.val / 64 - 4, by omega⟩ := Fin.ext (by show x.val / 64 % 4 = x.val / 64 - 4; omega)
    rw [h3, h4, ← e]
    exact congrArg (fun z => heads m c t (ix2 i z)) (Fin.ext (by show x.val = (4 + (x.val / 64 - 4)) * 64 + x.val % 64; omega))

/-- Entry `(s, x)` of sequence `b` of the attention's output, from the arguments. -/
abbrev res (b : Fin 8) (s : Fin 2048) (x : Fin 512) : EReal :=
  Cert.SwaSpec.out (argQ m c) (argK m c) (argV m c) (argBias m c) (argQg m c) (argKg m c) (argSink m c) (argOg m c) b s x

/-- What point `t` stores is its block of the attention's output. -/
theorem stored (i : Fin 128) (x : Fin 512) : outsAt0 m c t (ix3 (0 : Fin 1) i x) = res m c (tb t) (cur t i) x := by
  rw [opened]
  refine (stored_apply (heads m c t) (iblk m c 9 t) (headSquares m c t) (fun i => squares_apply _ _ _ _ _ _ _ _ _ _ _ i) i x).trans ?_
  have hA : (fun y => heads m c t (ix2 i y)) = fun y => Cert.SwaSpec.heads (argQ m c) (argK m c) (argV m c) (argBias m c) (argQg m c) (argKg m c)
      (argSink m c) (tb t) (cur t i) y := funext fun y => heads_apply m c t i y
  rw [blk9]
  exact congrArg (fun F : Fin 512 → EReal => F x * Ideal.rsqrt (Ideal.div (∑ y, F y * F y) (Ideal.ofBits FTy.f32 1140850688#32)
    + Ideal.ofBits FTy.f32 897988541#32) * argOg m c (ix1 x)) hA

/-! ## The whole result -/

/-- The output, entry by entry. -/
def whole : S8x2048x512.Idx → EReal := fun i => res m c (i 0) (i 1) (i 2)

/-- Point `t` writes back block `t mod 16` of sequence `t / 16`. -/
theorem flushed10_eq : (dats m 0 c).flushed 10 t = (win0_10.blk t).view.read (Elt Ideal) (whole m c) := by
  rw [Value.flushed10]
  funext j
  obtain ⟨z, r, x, rfl⟩ : ∃ (z : Fin 1) (r : Fin 128) (x : Fin 512), j = ix3 z r x := ⟨j 0, j 1, j 2, eq_ix3 j⟩
  obtain rfl : z = 0 := Subsingleton.elim _ _
  show outsAt0 m c t (ix3 (0 : Fin 1) r x) = whole m c ((win0_10.rect t).idx (ix3 (0 : Fin 1) r x))
  rw [stored]
  have e : (win0_10.rect t).idx (ix3 (0 : Fin 1) r x) = (ix3 (tb t) (cur t r) x : S8x2048x512.Idx) := funext fun a => Fin.ext (by
    match a with
    | ⟨0, _⟩ => show win0_10.index t 0 * 1 + 1 * 0 = t.val / 16
                rw [(idx10 t).1]; omega
    | ⟨1, _⟩ => show win0_10.index t 1 * 128 + 1 * r.val = t.val % 16 * 128 + r.val
                rw [(idx10 t).2.1]; omega
    | ⟨2, _⟩ => show win0_10.index t 2 * 512 + 1 * x.val = x.val
                rw [(idx10 t).2.2]; omega)
  rw [e]
  rfl

theorem mem_blk10 (i : S8x2048x512.Idx) :
    i ∈ ((cfg0.win 10).blk t).view.set ↔ (i 0).val = t.val / 16 ∧ t.val % 16 * 128 ≤ (i 1).val ∧ (i 1).val < t.val % 16 * 128 + 128 := by
  show i ∈ ((View.whole main_v6).slice (win0_10.rect t)).set ↔ _
  rw [View.set_slice_whole, Rect.mem_set_unit]
  have h2 : (i 2).val < 512 := (i 2).isLt
  have e := idx10 t
  refine ⟨fun h => ?_, fun h a => ?_⟩
  · have h0 : win0_10.index t 0 * 1 ≤ (i 0).val ∧ (i 0).val < win0_10.index t 0 * 1 + 1 := h 0
    have h1 : win0_10.index t 1 * 128 ≤ (i 1).val ∧ (i 1).val < win0_10.index t 1 * 128 + 128 := h 1
    rw [e.1] at h0; rw [e.2.1] at h1; omega
  · match a with
    | ⟨0, _⟩ => show win0_10.index t 0 * 1 ≤ (i 0).val ∧ (i 0).val < win0_10.index t 0 * 1 + 1
                rw [e.1]; omega
    | ⟨1, _⟩ => show win0_10.index t 1 * 128 ≤ (i 1).val ∧ (i 1).val < win0_10.index t 1 * 128 + 128
                rw [e.2.1]; omega
    | ⟨2, _⟩ => show win0_10.index t 2 * 512 ≤ (i 2).val ∧ (i 2).val < win0_10.index t 2 * 512 + 512
                rw [e.2.2]; omega

/-- The 8 · 16 blocks fill the result. -/
theorem cover10 (i : S8x2048x512.Idx) : ∃ t : Fin cfg0.N, (cfg0.win 10).flush t = true ∧ i ∈ ((cfg0.win 10).blk t).view.set := by
  have h0 : (i 0).val < 8 := (i 0).isLt
  have h1 : (i 1).val < 2048 := (i 1).isLt
  have ht : (i 0).val * 16 + (i 1).val / 128 < cfg0.N := by rw [show cfg0.N = 128 from N_0]; omega
  refine ⟨⟨(i 0).val * 16 + (i 1).val / 128, ht⟩, flush0_10 _, ?_⟩
  rw [mem_blk10]
  dsimp only
  omega

theorem final : (dats m 0 c).arrAt 10 cfg0.N = whole m c :=
  (dats m 0 c).arrAt_eq_of_cover 10 (whole m c) (fun t _ => flushed10_eq m c t) cover10

end Cert.SwaKern
-- ==== Proof.SwaRef.lean ====
module

public import proofs.«01_k».proof.Defs
public import proofs.«01_k».proof.Proof.Gen.ReferenceIdeal.Run
public import proofs.«01_k».proof.Proof.Gen.ReferenceIdeal.Read
public import proofs.«01_k».proof.Proof.SwaSpec
public import Idealize.ShloMosaic.Lib.Pointwise
public import Idealize.ShloMosaic.Lib.Tactic

@[expose] public section

set_option maxRecDepth 16384

noncomputable section

namespace Cert.SwaRef

open Idealize.ShloMosaic Idealize.ShloMosaic.TcCoe Idealize.SL.Sem
open Cert.SwaMath Cert.SwaSpec
open Cert.ReferenceIdeal Cert.ReferenceIdeal.Read

variable (q : Vec Ideal S16384x512 .f32) (k v : Vec Ideal S16384x128 .f32) (bi : Vec Ideal S8x128x256 .f32)
  (qg kg : Vec Ideal S64 .f32) (sk : Vec Ideal S8 .f32) (og : Vec Ideal S512 .f32)

/-! ## The reference's stages -/

/-- The normalised queries. -/
theorem v45_apply (b : Fin 8) (s : Fin 2048) (h : Fin 8) (d : Fin 64) :
    val_main_v45 (F := Ideal) q qg (ix4 b s h d)
      = nrm (fun x => q (ix2 ⟨b.val * 2048 + s.val, by omega⟩ ⟨h.val * 64 + x.val, by omega⟩)) (fun x => qg (ix1 x)) d := by
  pointwise! [val_main_v45_apply, val_main_v44, val_main_v43, val_main_v42_apply, val_main_v41, val_main_v40_apply,
    val_main_v39_apply, val_main_v38, val_main_v37_apply, val_main_v36, val_main_v35, val_main_v34, val_main_v33_apply,
    val_main_v32, val_main_cst, val_main_cst_5, val_main_cst_6, nrm]

/-- The normalised keys. -/
theorem v59_apply (b : Fin 8) (s : Fin 2048) (h : Fin 2) (d : Fin 64) :
    val_main_v59 (F := Ideal) k kg (ix4 b s h d)
      = nrm (fun x => k (ix2 ⟨b.val * 2048 + s.val, by omega⟩ ⟨h.val * 64 + x.val, by omega⟩)) (fun x => kg (ix1 x)) d := by
  pointwise! [val_main_v59_apply, val_main_v58, val_main_v57, val_main_v56_apply, val_main_v55, val_main_v54_apply,
    val_main_v53_apply, val_main_v52, val_main_v51_apply, val_main_v50, val_main_v49, val_main_v48, val_main_v47_apply,
    val_main_v46, val_main_cst_7, val_main_cst_8, val_main_cst_9, nrm]

/-- The queries a block at a time. -/
theorem v61_apply (b : Fin 8) (n : Fin 16) (i : Fin 128) (hk : Fin 2) (g : Fin 4) (d : Fin 64) :
    val_main_v61 (F := Ideal) q qg (ix6 b n i hk g d) = qn q qg b n (hd hk g) i d := by
  have e : val_main_v61 (F := Ideal) q qg (ix6 b n i hk g d)
      = val_main_v45 (F := Ideal) q qg (ix4 b ⟨n.val * 128 + i.val, by omega⟩ ⟨hk.val * 4 + g.val, by omega⟩ d) := by
    pointwise [val_main_v61]
  rw [e, v45_apply]
  rfl

/-- A key of the window is its own row's. -/
theorem v66_apply (b : Fin 8) (n : Fin 16) (j : Fin 256) (hk : Fin 2) (d : Fin 64) (h : 128 ≤ n.val * 128 + j.val) :
    val_main_v66 (F := Ideal) k kg (ix5 b n j hk d) = kn k kg b n hk j d := by
  have e : val_main_v66 (F := Ideal) k kg (ix5 b n j hk d)
      = val_main_v59 (F := Ideal) k kg (ix4 b ⟨n.val * 128 + j.val - 128, by omega⟩ hk d) := by
    pointwise [val_main_v66, val_main_v65, val_main_v64, val_main_v63, val_main_v62]
    by_cases hj : j.val < 128
    · rw [dif_pos hj, dif_pos (by omega)]
    · rw [dif_neg hj, dif_pos (by omega)]
      congr 2
      exact Fin.ext (by show (1 + n.val) * 128 + (j.val - 128) - 128 = n.val * 128 + j.val - 128; omega)
  rw [e, v59_apply]
  rfl

/-- A value of the window is its own row's. -/
theorem v71_apply (b : Fin 8) (n : Fin 16) (j : Fin 256) (hk : Fin 2) (d : Fin 64) (h : 128 ≤ n.val * 128 + j.val) :
    val_main_v71 (F := Ideal) v (ix5 b n j hk d) = v (ix2 (krow b n j) (kcol hk d)) := by
  have e : val_main_v71 (F := Ideal) v (ix5 b n j hk d)
      = v (ix2 ⟨b.val * 2048 + (n.val * 128 + j.val - 128), by omega⟩ ⟨hk.val * 64 + d.val, by omega⟩) := by
    pointwise [val_main_v71, val_main_v70, val_main_v69, val_main_v68, val_main_v67, val_main_v60]
    by_cases hj : j.val < 128
    · rw [dif_pos hj, dif_pos (by omega)]
    · rw [dif_neg hj, dif_pos (by omega)]
      congr 2
      exact Fin.ext (by
        show b.val * 2048 + ((1 + n.val) * 128 + (j.val - 128) - 128) = b.val * 2048 + (n.val * 128 + j.val - 128); omega)
  exact e

/-- The reference's two conditions on positions, and its condition on the sequence's start. -/
theorem mask_words : ∀ (i : Fin 128) (j : Fin 256),
    IntOp.andi
        (IntOp.cmpi CmpIPredicate.sge (IntOp.subi (IntOp.addi (128#32) (BitVec.ofNat 32 i.val)) (BitVec.ofNat 32 j.val)) 0#32)
        (IntOp.cmpi CmpIPredicate.slt (IntOp.subi (IntOp.addi (128#32) (BitVec.ofNat 32 i.val)) (BitVec.ofNat 32 j.val)) 128#32)
      = BitVec.ofBool (decide (i.val < j.val ∧ j.val ≤ i.val + 128)) := by decide +kernel

theorem start_words : ∀ (n : Fin 16) (j : Fin 256),
    IntOp.cmpi CmpIPredicate.sge
        (IntOp.addi (IntOp.subi (IntOp.muli (BitVec.ofNat 32 n.val) 128#32) 128#32) (BitVec.ofNat 32 j.val)) 0#32
      = BitVec.ofBool (decide (0 < n.val ∨ 128 ≤ j.val)) := by decide +kernel

/-- The reference's mask is the window. -/
theorem v31_apply (n : Fin 16) (i : Fin 128) (j : Fin 256) :
    val_main_v31 (F := Ideal) (ix3 n i j) = BitVec.ofBool (ok n i j) := by
  have e : val_main_v31 (F := Ideal) (ix3 n i j) = IntOp.andi (IntOp.andi
        (IntOp.cmpi CmpIPredicate.sge (IntOp.subi (IntOp.addi (128#32) (BitVec.ofNat 32 i.val)) (BitVec.ofNat 32 j.val)) 0#32)
        (IntOp.cmpi CmpIPredicate.slt (IntOp.subi (IntOp.addi (128#32) (BitVec.ofNat 32 i.val)) (BitVec.ofNat 32 j.val)) 128#32))
      (IntOp.cmpi CmpIPredicate.sge
        (IntOp.addi (IntOp.subi (IntOp.muli (BitVec.ofNat 32 n.val) 128#32) 128#32) (BitVec.ofNat 32 j.val)) 0#32) := by
    pointwise [val_main_v31, val_main_v30, val_main_v29, val_main_v28, val_main_v27, val_main_v26, val_main_v25,
      val_main_v24, val_main_v23, val_main_v22, val_main_v21, val_main_v20, val_main_v19, val_main_v18, val_main_v17,
      val_main_v16, val_main_v15, val_main_v14, val_main_v13, val_main_v12, val_main_v11, val_main_v10, val_main_v8,
      val_main_v7, val_main_v6, val_main_v5, val_main_v4, val_main_v3, val_main_v2, val_main_v1, val_main_v0, val_main_c,
      val_main_c_0, val_main_c_1, val_main_c_2, val_main_c_3, val_main_c_4]
  have hand : ∀ x y : Bool, IntOp.andi (BitVec.ofBool x) (BitVec.ofBool y) = BitVec.ofBool (x && y) := by decide
  rw [e, mask_words, start_words, hand]
  unfold ok
  rw [← Bool.decide_and]
  congr 2
  exact propext (and_assoc)

/-- The reference's scores. -/
theorem v80_apply (b : Fin 8) (n : Fin 16) (hk : Fin 2) (g : Fin 4) (i : Fin 128) (j : Fin 256) :
    val_main_v80 (F := Ideal) q k bi qg kg (ix6 b n hk g i j) = scores q k bi qg kg b n hk g i j := by
  have e : val_main_v80 (F := Ideal) q k bi qg kg (ix6 b n hk g i j)
      = Scalar.select (val_main_v31 (F := Ideal) (ix3 n i j))
        ((∑ x, val_main_v66 (F := Ideal) k kg (ix5 b n j hk x) * val_main_v61 (F := Ideal) q qg (ix6 b n i hk g x))
          * Ideal.ofBits FTy.f32 1040187392#32 + bi (ix3 ⟨hk.val * 4 + g.val, by omega⟩ i j))
        (val_main_call2_v0 (F := Ideal) ix0) := by
    pointwise [val_main_v80, val_main_call2_v1, val_main_call2_v2, val_main_v79, val_main_v78_apply, val_main_v77,
      val_main_v76, val_main_v9, val_main_v75_apply, val_main_v74, val_main_cst_12, val_main_v73, val_main_v72]
  have e0 : val_main_call2_v0 (F := Ideal) ix0 = ⊥ := by
    rw [val_main_call2_v0_apply, val_main_cst_13_apply]
    exact ofBits_neg_inf
  rw [e, v31_apply, e0]
  unfold scores score
  by_cases h : ok n i j = true
  · have h128 : 128 ≤ n.val * 128 + j.val := by
      have h' := h
      unfold ok at h'
      have := of_decide_eq_true h'
      omega
    rw [if_pos h, h]
    show _ + _ = _
    refine congrArg₂ (· + ·) (congrArg (· * _) (Finset.sum_congr rfl fun x _ => ?_)) rfl
    rw [v66_apply k kg b n j hk x h128, v61_apply, mul_comm]
  · have hf : ok n i j = false := by simpa using h
    rw [if_neg h, hf]
    rfl

end Cert.SwaRef
-- ==== Proof.SwaRef2.lean ====
module

public import proofs.«01_k».proof.Proof.SwaRef

@[expose] public section

set_option maxRecDepth 16384

noncomputable section

namespace Cert.SwaRef

open Idealize.ShloMosaic Idealize.ShloMosaic.TcCoe Idealize.SL.Sem
open Cert.SwaMath Cert.SwaSpec
open Cert.ReferenceIdeal Cert.ReferenceIdeal.Read Cert.ReferenceIdeal.Gen

variable (q : Vec Ideal S16384x512 .f32) (k v : Vec Ideal S16384x128 .f32) (bi : Vec Ideal S8x128x256 .f32)
  (qg kg : Vec Ideal S64 .f32) (sk : Vec Ideal S8 .f32) (og : Vec Ideal S512 .f32)

/-! ## The reference's softmax and its product with the values -/

/-- The indices that the reduction over the keys sends to one place differ in the key alone. -/
theorem fiber (b : Fin 8) (n : Fin 16) (hk : Fin 2) (g : Fin 4) (i : Fin 128) (x : S8x16x2x4x128x256.Idx) :
    reducesTo_S8x16x2x4x128x256_S8x16x2x4x128_d5.drop x = ix5 b n hk g i ↔ ∃ j : Fin 256, ix6 b n hk g i j = x := by
  constructor
  · intro e
    refine ⟨x 5, ?_⟩
    funext a
    apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨j, rfl⟩
    funext a
    apply Fin.ext
    match a with
    | ⟨0, _⟩ => rfl
    | ⟨1, _⟩ => rfl
    | ⟨2, _⟩ => rfl
    | ⟨3, _⟩ => rfl
    | ⟨4, _⟩ => rfl

theorem ix6_inj (b : Fin 8) (n : Fin 16) (hk : Fin 2) (g : Fin 4) (i : Fin 128) :
    Function.Injective (fun j : Fin 256 => (ix6 b n hk g i j : S8x16x2x4x128x256.Idx)) := by
  intro j j' e
  exact Fin.ext (congrArg Fin.val (congrFun e (5 : Fin 6)))

/-- The largest score of a query. -/
theorem v83_apply (b : Fin 8) (n : Fin 16) (hk : Fin 2) (g : Fin 4) (i : Fin 128) :
    val_main_v83 (F := Ideal) q k bi qg kg (ix5 b n hk g i)
      = Finset.univ.fold max ⊥ (scores q k bi qg kg b n hk g i) := by
  have hs : (fun j : Fin 256 => val_main_v80 (F := Ideal) q k bi qg kg (ix6 b n hk g i j)) = scores q k bi qg kg b n hk g i :=
    funext fun j => v80_apply q k bi qg kg b n hk g i j
  rw [← hs]
  unfold val_main_v83
  generalize val_main_v80 (F := Ideal) q k bi qg kg = U
  rw [Host.reduce_eq_fold]
  have hi : val_main_cst_14 (F := Ideal) (Shape.Idx.first h_S_) = ⊥ := ofBits_neg_inf
  rw [hi]
  exact Finset.fold_filter_eq_fold_of_fiber _ _ _ (ix6_inj b n hk g i) (fiber b n hk g i) _ _

/-- The largest of the scores and of the sink. -/
theorem v85_apply (b : Fin 8) (n : Fin 16) (hk : Fin 2) (g : Fin 4) (i : Fin 128) :
    val_main_v85 (F := Ideal) q k bi qg kg sk (ix5 b n hk g i) = top (scores q k bi qg kg b n hk g i) (sk (ix1 (hd hk g))) := by
  have e : val_main_v84 (F := Ideal) sk (ix5 b n hk g i) = sk (ix1 (hd hk g)) := by
    pointwise [val_main_v84, val_main_v82, val_main_v81]
    rfl
  have h : val_main_v85 (F := Ideal) q k bi qg kg sk (ix5 b n hk g i)
      = max (val_main_v83 (F := Ideal) q k bi qg kg (ix5 b n hk g i)) (val_main_v84 (F := Ideal) sk (ix5 b n hk g i)) :=
    val_main_v85_apply q k bi qg kg sk _
  rw [h, v83_apply, e]
  rfl

/-- The weights. -/
theorem v89_apply (b : Fin 8) (n : Fin 16) (hk : Fin 2) (g : Fin 4) (i : Fin 128) (j : Fin 256) :
    val_main_v89 (F := Ideal) q k bi qg kg sk (ix6 b n hk g i j)
      = wt (scores q k bi qg kg b n hk g i) (sk (ix1 (hd hk g))) j := by
  have e : val_main_v87 (F := Ideal) q k bi qg kg sk (ix6 b n hk g i j) = val_main_v85 (F := Ideal) q k bi qg kg sk (ix5 b n hk g i) := by
    unfold val_main_v87 val_main_v86
    generalize val_main_v85 (F := Ideal) q k bi qg kg sk = U
    pointwise []
  rw [val_main_v89_apply]
  show Ideal.exp (val_main_v80 (F := Ideal) q k bi qg kg (ix6 b n hk g i j) - val_main_v87 (F := Ideal) q k bi qg kg sk (ix6 b n hk g i j)) = _
  rw [e, v80_apply, v85_apply]
  rfl

/-- The sum of the weights, the sink's own among them. -/
theorem v94_apply (b : Fin 8) (n : Fin 16) (hk : Fin 2) (g : Fin 4) (i : Fin 128) :
    val_main_v94 (F := Ideal) q k bi qg kg sk (ix5 b n hk g i) = den (scores q k bi qg kg b n hk g i) (sk (ix1 (hd hk g))) := by
  have e : val_main_v91 (F := Ideal) sk (ix5 b n hk g i) = sk (ix1 (hd hk g)) := by
    pointwise [val_main_v91, val_main_v82, val_main_v81]
    rfl
  have h90 : val_main_v90 (F := Ideal) q k bi qg kg sk (ix5 b n hk g i)
      = ∑ j, wt (scores q k bi qg kg b n hk g i) (sk (ix1 (hd hk g))) j := by
    rw [val_main_v90_apply]
    have hi : val_main_cst_15 (F := Ideal) (Shape.Idx.first h_S_) = 0 := ofBits_zero
    rw [hi, zero_add]
    refine Finset.sum_congr rfl fun j _ => ?_
    exact (congrArg _ (funext fun a => Fin.ext (by
      match a with | ⟨0, _⟩ => rfl | ⟨1, _⟩ => rfl | ⟨2, _⟩ => rfl | ⟨3, _⟩ => rfl | ⟨4, _⟩ => rfl | ⟨5, _⟩ => rfl))).trans
      (v89_apply q k bi qg kg sk b n hk g i j)
  rw [val_main_v94_apply, h90]
  show _ + Ideal.exp (val_main_v91 (F := Ideal) sk (ix5 b n hk g i) - val_main_v85 (F := Ideal) q k bi qg kg sk (ix5 b n hk g i)) = _
  rw [e, v85_apply]
  rfl

/-- The normalised weights. -/
theorem v97_apply (b : Fin 8) (n : Fin 16) (hk : Fin 2) (g : Fin 4) (i : Fin 128) (j : Fin 256) :
    val_main_v97 (F := Ideal) q k bi qg kg sk (ix6 b n hk g i j)
      = Ideal.div (wt (scores q k bi qg kg b n hk g i) (sk (ix1 (hd hk g))) j)
          (den (scores q k bi qg kg b n hk g i) (sk (ix1 (hd hk g)))) := by
  have e : val_main_v96 (F := Ideal) q k bi qg kg sk (ix6 b n hk g i j) = val_main_v94 (F := Ideal) q k bi qg kg sk (ix5 b n hk g i) := by
    unfold val_main_v96 val_main_v95
    generalize val_main_v94 (F := Ideal) q k bi qg kg sk = U
    pointwise []
  rw [← v89_apply, ← v94_apply, ← e]
  rfl

/-- The weighted sum of the values: the weights are normalised first. Where no score is +∞ and the sink is a real number, this
    is the sum divided by the sum of the weights. -/
theorem v99_apply (b : Fin 8) (n : Fin 16) (hk : Fin 2) (g : Fin 4) (i : Fin 128) (d : Fin 64)
    (hs : ∀ j, scores q k bi qg kg b n hk g i j ≠ ⊤) (h : sk (ix1 (hd hk g)) ≠ ⊤ ∧ sk (ix1 (hd hk g)) ≠ ⊥) :
    val_main_v99 (F := Ideal) q k v bi qg kg sk (ix6 b n i hk g d) = head q k v bi qg kg sk b n hk g i d := by
  have e : val_main_v99 (F := Ideal) q k v bi qg kg sk (ix6 b n i hk g d)
      = ∑ j, val_main_v71 (F := Ideal) v (ix5 b n j hk d) * val_main_v97 (F := Ideal) q k bi qg kg sk (ix6 b n hk g i j) := by
    rw [val_main_v99_apply, val_main_v98_apply]
    refine Finset.sum_congr rfl fun j _ => congrArg₂ (· * ·) (congrArg _ (funext fun a => Fin.ext ?_)) (congrArg _ (funext fun a => Fin.ext ?_))
    · match a with | ⟨0, _⟩ => rfl | ⟨1, _⟩ => rfl | ⟨2, _⟩ => rfl | ⟨3, _⟩ => rfl | ⟨4, _⟩ => rfl
    · match a with | ⟨0, _⟩ => rfl | ⟨1, _⟩ => rfl | ⟨2, _⟩ => rfl | ⟨3, _⟩ => rfl | ⟨4, _⟩ => rfl | ⟨5, _⟩ => rfl
  have e2 : (∑ j, val_main_v71 (F := Ideal) v (ix5 b n j hk d) * val_main_v97 (F := Ideal) q k bi qg kg sk (ix6 b n hk g i j))
      = ∑ j, val_main_v71 (F := Ideal) v (ix5 b n j hk d) * Ideal.div (wt (scores q k bi qg kg b n hk g i) (sk (ix1 (hd hk g))) j)
          (den (scores q k bi qg kg b n hk g i) (sk (ix1 (hd hk g)))) :=
    Finset.sum_congr rfl fun j _ => congrArg _ (v97_apply q k bi qg kg sk b n hk g i j)
  rw [e, e2]
  refine (att_eq hs h (fun j => val_main_v71 (F := Ideal) v (ix5 b n j hk d))).symm.trans ?_
  unfold head
  refine att_congr fun j hj => v71_apply v b n j hk d ?_
  by_contra hlt
  refine hj ?_
  unfold scores score
  refine if_neg ?_
  unfold ok
  intro hok
  have := of_decide_eq_true hok
  omega

/-- The sum of the squares of a row of the heads side by side. -/
theorem v102_apply (b : Fin 8) (s : Fin 2048) : val_main_v102 (F := Ideal) q k v bi qg kg sk (ix2 b s)
    = ∑ x, val_main_v100 (F := Ideal) q k v bi qg kg sk (ix3 b s x) * val_main_v100 (F := Ideal) q k v bi qg kg sk (ix3 b s x) := by
  have hi : val_main_cst_16 (F := Ideal) (Shape.Idx.first h_S_) = 0 := ofBits_zero
  rw [val_main_v102_apply, hi, zero_add]
  refine Finset.sum_congr rfl fun x _ => ?_
  rw [val_main_v101_apply]
  have e : idx_main_v102 (ix2 b s) x = ix3 b s x := funext fun a => match a with | ⟨0, _⟩ => rfl | ⟨1, _⟩ => rfl | ⟨2, _⟩ => rfl
  rw [e]
  rfl

/-- One over the row's root mean square, with the small constant added. -/
theorem v108_apply (b : Fin 8) (s : Fin 2048) : val_main_v108 (F := Ideal) q k v bi qg kg sk (ix3 b s 0)
    = Ideal.rsqrt (Ideal.div (∑ x, val_main_v100 (F := Ideal) q k v bi qg kg sk (ix3 b s x) * val_main_v100 (F := Ideal) q k v bi qg kg sk (ix3 b s x))
    (Ideal.ofBits FTy.f32 1140850688#32) + Ideal.ofBits FTy.f32 897988541#32) := by
  have e : idx_main_v103 (ix3 b s 0) = ix2 b s := funext fun a => match a with | ⟨0, _⟩ => rfl | ⟨1, _⟩ => rfl
  rw [← v102_apply, val_main_v108_apply, val_main_v107_apply, val_main_v105_apply, val_main_v103_apply, e, val_main_v104_apply, val_main_v106_apply]
  generalize val_main_v102 (F := Ideal) q k v bi qg kg sk (ix2 b s) = u
  rfl

/-- The reference's result from those heads. -/
theorem v114_raw (b : Fin 8) (s : Fin 2048) (c : Fin 512) :
   val_main_v114 (F := Ideal) q k v bi qg kg sk og (ix3 b s c) = val_main_v100 (F := Ideal) q k v bi qg kg sk (ix3 b s c)
     * Ideal.rsqrt (Ideal.div (∑ x, val_main_v100 (F := Ideal) q k v bi qg kg sk (ix3 b s x) * val_main_v100 (F := Ideal) q k v bi qg kg sk (ix3 b s x))
    (Ideal.ofBits FTy.f32 1140850688#32) + Ideal.ofBits FTy.f32 897988541#32) * og (ix1 c) := by
  have e1 : idx_main_v109 (ix3 b s c) = ix3 b s 0 := funext fun a => match a with | ⟨0, _⟩ => rfl | ⟨1, _⟩ => rfl | ⟨2, _⟩ => rfl
  have e2 : val_main_v112 (F := Ideal) og (ix3 b s c) = og (ix1 c) := by
    pointwise [val_main_v112, val_main_v111]
  rw [← v108_apply, val_main_v114_apply, val_main_v113_apply, val_main_v110_apply, val_main_v109_apply, e1, e2]
  generalize val_main_v108 (F := Ideal) q k v bi qg kg sk (ix3 b s 0) = u
  generalize val_main_v100 (F := Ideal) q k v bi qg kg sk (ix3 b s c) = w
  rfl

/-- So the reference's result is the attention's output, under those conditions. -/
theorem v114_apply (b : Fin 8) (s : Fin 2048) (c : Fin 512)
    (hs : ∀ n hk g i j, scores q k bi qg kg b n hk g i j ≠ ⊤) (h : ∀ x, sk (ix1 x) ≠ ⊤ ∧ sk (ix1 x) ≠ ⊥) :
    val_main_v114 (F := Ideal) q k v bi qg kg sk og (ix3 b s c) = out q k v bi qg kg sk og b s c := by
  have hh : ∀ c : Fin 512, val_main_v99 (F := Ideal) q k v bi qg kg sk
      (ix6 b ⟨s.val / 128, by omega⟩ ⟨s.val % 128, by omega⟩ ⟨c.val / 256, by omega⟩ ⟨c.val / 64 % 4, by omega⟩ ⟨c.val % 64, by omega⟩)
      = heads q k v bi qg kg sk b s c := fun c => v99_apply q k v bi qg kg sk b _ _ _ _ _ (hs _ _ _ _) (h _)
  have h100 : ∀ c : Fin 512, val_main_v100 (F := Ideal) q k v bi qg kg sk (ix3 b s c) = heads q k v bi qg kg sk b s c := fun c => by
    rw [← hh c]
    unfold val_main_v100
    generalize val_main_v99 (F := Ideal) q k v bi qg kg sk = U
    pointwise []
  unfold out
  simp only [← h100]
  exact v114_raw q k v bi qg kg sk og b s c

end Cert.SwaRef
-- ==== Proof.SwaPre.lean ====
module

public import proofs.«01_k».proof.Defs
public import proofs.«01_k».proof.Proof.Gen.Pre_scores_finite
public import Idealize.ShloMosaic.Lib.ReduceAll
public import Idealize.ShloMosaic.Lib.Pointwise

@[expose] public section

set_option maxRecDepth 16384

noncomputable section

namespace Cert.SwaPre

open Idealize.ShloMosaic Idealize.SL.Sem
open Cert.Pre_scores_finite Cert.Pre_scores_finite.Gen

/-- A number whose absolute value is below +∞ is real. -/
theorem real_of_lt {x : EReal} (h : Ideal.cmp .olt (max x (-x)) (Ideal.ofBits .f32 0x7F800000#32) = 1#1) :
    ∃ r : ℝ, x = (r : EReal) := by
  have ht : Ideal.ofBits FTy.f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- The shape without axes has one index. -/
theorem one_idx : Subsingleton S_.Idx := ⟨fun _ _ => funext fun a => a.elim0⟩

/-- An array that the precondition tests has real entries alone. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) :=
  haveI := one_idx
  real_of_lt (Host.reduce_andi_all _ _ hr hu j e i)

/-- So where the precondition holds, the queries, keys, biases, the two scales and the sinks are real numbers. -/
theorem reals {q : FVec Ideal S16384x512 .f32} {k v : FVec Ideal S16384x128 .f32} {bi : FVec Ideal S8x128x256 .f32}
    {qg kg : FVec Ideal S64 .f32} {sk : FVec Ideal S8 .f32} {og : FVec Ideal S512 .f32}
    (h : fn (F := Ideal) q k v bi qg kg sk og = fun _ => 1#1) :
    (∀ i, ∃ r : ℝ, q i = (r : EReal)) ∧ (∀ i, ∃ r : ℝ, k i = (r : EReal)) ∧ (∀ i, ∃ r : ℝ, bi i = (r : EReal))
      ∧ (∀ i, ∃ r : ℝ, qg i = (r : EReal)) ∧ (∀ i, ∃ r : ℝ, kg i = (r : EReal)) ∧ (∀ i, ∃ r : ℝ, sk i = (r : EReal)) := by
  have key : ∀ U : IVec S_ 1, (shapeCast S1 U shapeCasts_S_S1 = fun _ => 1#1) → U (Shape.Idx.first h_S_) = 1#1 := fun U e => by
    refine Eq.trans ?_ (congrFun e (ix1 0))
    unfold shapeCast
    exact congrArg U (one_idx.elim _ _)
  unfold fn fn_part1 at h
  have h' := key _ h
  obtain ⟨h1, e6⟩ := IntOp.andi_eq_one.mp h'
  obtain ⟨h2, e5⟩ := IntOp.andi_eq_one.mp h1
  obtain ⟨h3, e4⟩ := IntOp.andi_eq_one.mp h2
  obtain ⟨h4, e3⟩ := IntOp.andi_eq_one.mp h3
  obtain ⟨e0, e1⟩ := IntOp.andi_eq_one.mp h4
  exact ⟨real_of_all _ _ _ _ _ e0, real_of_all _ _ _ _ _ e1, real_of_all _ _ _ _ _ e3, real_of_all _ _ _ _ _ e4,
    real_of_all _ _ _ _ _ e5, real_of_all _ _ _ _ _ e6⟩

end Cert.SwaPre
-- ==== Proof.SwaValue.lean ====
module

public import proofs.«01_k».proof.Defs
public import proofs.«01_k».proof.Proof.Gen.ReferenceIdeal.Run
public import proofs.«01_k».proof.Proof.Gen.ReferenceIdeal.Read
public import proofs.«01_k».proof.Proof.SwaKern
public import proofs.«01_k».proof.Proof.SwaRef2
public import proofs.«01_k».proof.Proof.SwaPre

@[expose] public section

set_option maxRecDepth 65536

noncomputable section

namespace Cert.SwaValue

open Idealize.ShloMosaic Idealize.ShloMosaic.TcCoe Idealize.SL.Sem
open Cert.SwaBlk Cert.SwaMath Cert.SwaKern
open Cert.KernelIdeal Cert.KernelIdeal.Gen

variable (m : (ℓ : Loc nD τ sig) → Buf (Elt Ideal) ℓ) (c : Dev nD)

/-- Where the arguments are finite the reference's result is the attention's output, entry by entry. -/
theorem ref_whole (h : Cert.Pre_KernelIdeal_scores_finite m) :
    Cert.ReferenceIdeal.Read.val_main_v114 (F := Ideal) (argQ m c) (argK m c) (argV m c) (argBias m c) (argQg m c) (argKg m c) (argSink m c)
      (argOg m c) = whole m c := by
  obtain ⟨hq, hk, hb, hqg, hkg, hs⟩ := Cert.SwaPre.reals (h c)
  funext i
  obtain ⟨b, s, x, rfl⟩ : ∃ (b : Fin 8) (s : Fin 2048) (x : Fin 512), i = ix3 b s x := ⟨i 0, i 1, i 2, eq_ix3 i⟩
  refine Cert.SwaRef.v114_apply (argQ m c) (argK m c) (argV m c) (argBias m c) (argQg m c) (argKg m c) (argSink m c) (argOg m c) b s x
    (fun n hk' g i j => ?_) (fun x => ?_)
  · unfold Cert.SwaSpec.scores
    refine score_ne_top (fun d => ?_) (fun j d => ?_) (fun j => hb _) j
    · exact nrm_real (fun d => hq _) (fun d => hqg _) d
    · exact nrm_real (fun d => hk _) (fun d => hkg _) d
  · obtain ⟨r, hr⟩ := hs (ix1 x)
    have hr' : argSink m c (ix1 x) = (r : EReal) := hr
    rw [hr']
    exact ⟨EReal.coe_ne_top r, EReal.coe_ne_bot r⟩

/-- The claim: from finite queries, keys, bias, scales and sinks the kernel's result and the reference's are the same array. -/
theorem algebraic : Cert.algebraic_KernelIdeal_ReferenceIdeal_pre_scores_finite := by
  intro m ρ m' ρ' hpre hag
  refine ⟨fun c => whole m c, ?_, ?_⟩
  · refine (θ_run _ _ _).mono (fun r h c => ?_) (Value.run_blocks (F := Ideal) m ρ)
    obtain ⟨h6, ha⟩ := h c
    exact ⟨h6.trans (final m c), ha⟩
  · refine (θ_run _ _ _).mono (fun r h c => ?_) (Cert.ReferenceIdeal.Value.run (F := Ideal) m' ρ')
    obtain ⟨h6, ha⟩ := h c
    obtain ⟨e0, e1, e2, e3, e4, e5, e6, e7⟩ := hag c
    refine ⟨h6.trans ((Cert.ReferenceIdeal.Read.val_main_v114_eq _).trans ?_), ha⟩
    exact (congr (congr (congr (congr (congr (congr (congr (congrArg (Cert.ReferenceIdeal.Read.val_main_v114 (F := Ideal)) e0) e1) e2) e3) e4)
      e5) e6) e7).trans (ref_whole m c hpre)

end Cert.SwaValue
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Pre_scores_finite
public import proofs.«01_k».proof.Proof.Gen.TopKernel.Frame
public import proofs.«01_k».proof.Proof.Gen.TopKernelIdeal.Frame
public import proofs.«01_k».proof.Proof.InValue
public import proofs.«01_k».proof.Proof.OutValue
public import proofs.«01_k».proof.Proof.SwaValue
public import Idealize.ShloMosaic.Adequacy
public import Idealize.ShloMosaic.Init

@[expose] public section

noncomputable section

namespace Cert.Proof

open Idealize.ShloMosaic Idealize.SL.Sem

/-- The attention's reference runs to its end, leaves its arguments as they were and every counter at zero. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference of the projection into the mixers, -/
theorem frame_inRef : Cert.quiescent_InReferenceIdeal := fun m ρ _ =>
  (θ_run Cert.InReferenceIdeal.defs _ _).mono (fun r h => ⟨fun c => (h c).2.2.2.2.2, sem_eq_zero_of_no_sems (by decide) r.2⟩)
    (Cert.InReferenceIdeal.Value.run (F := Ideal) m ρ)

/-- and that of the projection out of them. -/
theorem frame_outRef : Cert.quiescent_OutReferenceIdeal := fun m ρ _ =>
  (θ_run Cert.OutReferenceIdeal.defs _ _).mono (fun r h => ⟨fun c => (h c).2.2, sem_eq_zero_of_no_sems (by decide) r.2⟩)
    (Cert.OutReferenceIdeal.Value.run (F := Ideal) m ρ)

theorem claim : Cert.Claim :=
  ⟨Cert.Kernel.Gen.facts, Cert.KernelIdeal.Gen.facts, Cert.ReferenceIdeal.Gen.facts, Cert.InKernel.Gen.facts, Cert.InKernelIdeal.Gen.facts,
    Cert.InReferenceIdeal.Gen.facts, Cert.OutKernel.Gen.facts, Cert.OutKernelIdeal.Gen.facts, Cert.OutReferenceIdeal.Gen.facts,
    Cert.TopKernel.Gen.facts, Cert.TopKernelIdeal.Gen.facts,
    Cert.Pre_scores_finite.Gen.facts,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    fun m ρ _ => Cert.InKernel.Gen.frame m ρ,
    fun m ρ _ => Cert.InKernelIdeal.Gen.frame m ρ,
    frame_inRef,
    fun m ρ _ => Cert.OutKernel.Gen.frame m ρ,
    fun m ρ _ => Cert.OutKernelIdeal.Gen.frame m ρ,
    frame_outRef,
    fun m ρ _ => Cert.TopKernel.Gen.frame m ρ,
    fun m ρ _ => Cert.TopKernelIdeal.Gen.frame m ρ,
    IdealRules.named_const.statement _ _ _ _ _ rfl,
    Cert.SwaValue.algebraic,
    trivial,
    Cert.InValue.algebraic,
    trivial,
    Cert.OutValue.algebraic,
    trivial⟩

end Cert.Proof

end
